-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x512 : Shape := ⟨2, ![512, 512]⟩
abbrev S128x512 : Shape := ⟨2, ![128, 512]⟩
abbrev S14x64x512 : Shape := ⟨3, ![14, 64, 512]⟩
abbrev S7 : Shape := ⟨1, ![7]⟩
abbrev S14 : Shape := ⟨1, ![14]⟩
abbrev S_ : Shape := ⟨0, ![]⟩
abbrev S1 : Shape := ⟨1, ![1]⟩
abbrev S64x512 : Shape := ⟨2, ![64, 512]⟩
abbrev S1x64x512 : Shape := ⟨3, ![1, 64, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .bf16⟩
  | .local _ .vmem, ⟨0, _⟩ => ⟨S1024x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S128x512, .f32⟩
  | .local _ .vmem, ⟨6, _⟩ => ⟨S14x64x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 8 59 bufScoped semScoped dmaSemScoped tileCredit tileCredit_eq_zero tileCredit_pos).withBarriers [(0, 7)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 7

abbrev nD : Nat := 8
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.xori v2 c1_i32_2
  let c1_i32_4 : BitVec 32 := 1#32
  let v8 : BitVec 32 := Scalar.muli v5 c1_i32_4
  let v9 : BitVec 32 := Scalar.addi c0_i32_5 v8
  v9.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 32 := Scalar.xori v2 c2_i32
  let c1_i32_8 : BitVec 32 := 1#32
  let v13 : BitVec 32 := Scalar.muli v10 c1_i32_8
  let v14 : BitVec 32 := Scalar.addi c0_i32_9 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_12 : BitVec 32 := 1#32
  let v18 : BitVec 32 := Scalar.muli v15 c1_i32_12
  let v19 : BitVec 32 := Scalar.addi c0_i32_13 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v20 : BitVec 32 := Scalar.xori v2 c4_i32
  let c1_i32_16 : BitVec 32 := 1#32
  let v23 : BitVec 32 := Scalar.muli v20 c1_i32_16
  let v24 : BitVec 32 := Scalar.addi c0_i32_17 v23
  v24.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.xori v2 c5_i32
  let c1_i32_20 : BitVec 32 := 1#32
  let v28 : BitVec 32 := Scalar.muli v25 c1_i32_20
  let v29 : BitVec 32 := Scalar.addi c0_i32_21 v28
  v29.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v30 : BitVec 32 := Scalar.xori v2 c6_i32
  let c1_i32_24 : BitVec 32 := 1#32
  let v33 : BitVec 32 := Scalar.muli v30 c1_i32_24
  let v34 : BitVec 32 := Scalar.addi c0_i32_25 v33
  v34.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v35 : BitVec 32 := Scalar.xori v2 c7_i32
  let c1_i32_28 : BitVec 32 := 1#32
  let v38 : BitVec 32 := Scalar.muli v35 c1_i32_28
  let v39 : BitVec 32 := Scalar.addi c0_i32_29 v38
  v39.toNat
def k0_off1 (d0 : Dev nD) (c1_i32_30 : BitVec 32) (c0_i32_35 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.xori v2 c1_i32_30
  let c128_i32_34 : BitVec 32 := 128#32
  let v43 : BitVec 32 := Scalar.muli v40 c128_i32_34
  let v44 : BitVec 32 := Scalar.addi v43 c0_i32_35
  let v45 : Index := Scalar.indexCast v44
  let c0 : Index := 0#32
  ![v45.toNat, 0]
def k0_off2 (d0 : Dev nD) (c1_i32_30 : BitVec 32) (c0_i32_35 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.xori v2 c1_i32_30
  let c128_i32_34 : BitVec 32 := 128#32
  let v43 : BitVec 32 := Scalar.muli v40 c128_i32_34
  let v44 : BitVec 32 := Scalar.addi v43 c0_i32_35
  let c0_i32_44 : BitVec 32 := 0#32
  ![v44.toNat, 0]
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v40 : BitVec 32 := Scalar.xori v2 c1_i32_30
  let c1_i32_40 : BitVec 32 := 1#32
  let v53 : BitVec 32 := Scalar.muli v40 c1_i32_40
  let v54 : BitVec 32 := Scalar.addi c0_i32_41 v53
  v54.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v62 : BitVec 32 := Scalar.xori v2 c3_i32_45
  let c1_i32_56 : BitVec 32 := 1#32
  let v75 : BitVec 32 := Scalar.muli v62 c1_i32_56
  let v76 : BitVec 32 := Scalar.addi c0_i32_57 v75
  v76.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v84 : BitVec 32 := Scalar.xori v2 c4_i32_61
  let c1_i32_72 : BitVec 32 := 1#32
  let v97 : BitVec 32 := Scalar.muli v84 c1_i32_72
  let v98 : BitVec 32 := Scalar.addi c0_i32_73 v97
  v98.toNat
def k0_dev11 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v106 : BitVec 32 := Scalar.xori v2 c2_i32_77
  let c1_i32_88 : BitVec 32 := 1#32
  let v119 : BitVec 32 := Scalar.muli v106 c1_i32_88
  let v120 : BitVec 32 := Scalar.addi c0_i32_89 v119
  v120.toNat
def k0_dev12 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_93 : BitVec 32 := 5#32
  let v128 : BitVec 32 := Scalar.xori v2 c5_i32_93
  let c1_i32_104 : BitVec 32 := 1#32
  let v141 : BitVec 32 := Scalar.muli v128 c1_i32_104
  let v142 : BitVec 32 := Scalar.addi c0_i32_105 v141
  v142.toNat
def k0_dev13 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_109 : BitVec 32 := 7#32
  let v150 : BitVec 32 := Scalar.xori v2 c7_i32_109
  let c1_i32_119 : BitVec 32 := 1#32
  let v163 : BitVec 32 := Scalar.muli v150 c1_i32_119
  let v164 : BitVec 32 := Scalar.addi c0_i32_120 v163
  v164.toNat
def k0_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_124 : BitVec 32 := 6#32
  let v172 : BitVec 32 := Scalar.xori v2 c6_i32_124
  let c1_i32_134 : BitVec 32 := 1#32
  let v185 : BitVec 32 := Scalar.muli v172 c1_i32_134
  let v186 : BitVec 32 := Scalar.addi c0_i32_135 v185
  v186.toNat
def k0_dev15 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v194 : BitVec 32 := Scalar.xori v2 c1_i32_139
  let c1_i32_146 : BitVec 32 := 1#32
  let v205 : BitVec 32 := Scalar.muli v194 c1_i32_146
  let v206 : BitVec 32 := Scalar.addi c0_i32_147 v205
  v206.toNat
def k0_dev16 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_151 : BitVec 32 := 3#32
  let v214 : BitVec 32 := Scalar.xori v2 c3_i32_151
  let c1_i32_159 : BitVec 32 := 1#32
  let v225 : BitVec 32 := Scalar.muli v214 c1_i32_159
  let v226 : BitVec 32 := Scalar.addi c0_i32_160 v225
  v226.toNat
def k0_dev17 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_164 : BitVec 32 := 4#32
  let v234 : BitVec 32 := Scalar.xori v2 c4_i32_164
  let c1_i32_172 : BitVec 32 := 1#32
  let v245 : BitVec 32 := Scalar.muli v234 c1_i32_172
  let v246 : BitVec 32 := Scalar.addi c0_i32_173 v245
  v246.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_177 : BitVec 32 := 2#32
  let v254 : BitVec 32 := Scalar.xori v2 c2_i32_177
  let c1_i32_185 : BitVec 32 := 1#32
  let v265 : BitVec 32 := Scalar.muli v254 c1_i32_185
  let v266 : BitVec 32 := Scalar.addi c0_i32_186 v265
  v266.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_190 : BitVec 32 := 5#32
  let v274 : BitVec 32 := Scalar.xori v2 c5_i32_190
  let c1_i32_197 : BitVec 32 := 1#32
  let v285 : BitVec 32 := Scalar.muli v274 c1_i32_197
  let v286 : BitVec 32 := Scalar.addi c0_i32_198 v285
  v286.toNat
def k0_dev20 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_202 : BitVec 32 := 7#32
  let v294 : BitVec 32 := Scalar.xori v2 c7_i32_202
  let c1_i32_209 : BitVec 32 := 1#32
  let v305 : BitVec 32 := Scalar.muli v294 c1_i32_209
  let v306 : BitVec 32 := Scalar.addi c0_i32_210 v305
  v306.toNat
def k0_dev21 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_214 : BitVec 32 := 6#32
  let v314 : BitVec 32 := Scalar.xori v2 c6_i32_214
  let c1_i32_221 : BitVec 32 := 1#32
  let v325 : BitVec 32 := Scalar.muli v314 c1_i32_221
  let v326 : BitVec 32 := Scalar.addi c0_i32_222 v325
  v326.toNat
def k0_off3 (d0 : Dev nD) (c0_i32_230 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v3 : BitVec 32 := Scalar.muli v2 c128_i32
  let v340 : BitVec 32 := Scalar.addi v3 c0_i32_230
  let v341 : Index := Scalar.indexCast v340
  let c0_231 : Index := 0#32
  ![v341.toNat, 0]
def k0_off4 (d0 : Dev nD) (c0_i32_230 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v3 : BitVec 32 := Scalar.muli v2 c128_i32
  let v340 : BitVec 32 := Scalar.addi v3 c0_i32_230
  let c0_i32_390 : BitVec 32 := 0#32
  ![v340.toNat, 0]
def k0_dev22 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_385 : BitVec 32 := 1#32
  let v493 : BitVec 32 := Scalar.xori v2 c1_i32_385
  let c1_i32_388 : BitVec 32 := 1#32
  let v494 : BitVec 32 := Scalar.muli v493 c1_i32_388
  let v495 : BitVec 32 := Scalar.addi c0_i32_389 v494
  v495.toNat
def k0_dev23 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_392 : BitVec 32 := 3#32
  let v502 : BitVec 32 := Scalar.xori v2 c3_i32_392
  let c1_i32_395 : BitVec 32 := 1#32
  let v503 : BitVec 32 := Scalar.muli v502 c1_i32_395
  let v504 : BitVec 32 := Scalar.addi c0_i32_396 v503
  v504.toNat
def k0_dev24 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_399 : BitVec 32 := 4#32
  let v511 : BitVec 32 := Scalar.xori v2 c4_i32_399
  let c1_i32_402 : BitVec 32 := 1#32
  let v512 : BitVec 32 := Scalar.muli v511 c1_i32_402
  let v513 : BitVec 32 := Scalar.addi c0_i32_403 v512
  v513.toNat
def k0_dev25 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_406 : BitVec 32 := 2#32
  let v520 : BitVec 32 := Scalar.xori v2 c2_i32_406
  let c1_i32_409 : BitVec 32 := 1#32
  let v521 : BitVec 32 := Scalar.muli v520 c1_i32_409
  let v522 : BitVec 32 := Scalar.addi c0_i32_410 v521
  v522.toNat
def k0_dev26 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_413 : BitVec 32 := 5#32
  let v529 : BitVec 32 := Scalar.xori v2 c5_i32_413
  let c1_i32_416 : BitVec 32 := 1#32
  let v530 : BitVec 32 := Scalar.muli v529 c1_i32_416
  let v531 : BitVec 32 := Scalar.addi c0_i32_417 v530
  v531.toNat
def k0_dev27 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_420 : BitVec 32 := 7#32
  let v538 : BitVec 32 := Scalar.xori v2 c7_i32_420
  let c1_i32_423 : BitVec 32 := 1#32
  let v539 : BitVec 32 := Scalar.muli v538 c1_i32_423
  let v540 : BitVec 32 := Scalar.addi c0_i32_424 v539
  v540.toNat
def k0_dev28 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_427 : BitVec 32 := 6#32
  let v547 : BitVec 32 := Scalar.xori v2 c6_i32_427
  let c1_i32_430 : BitVec 32 := 1#32
  let v548 : BitVec 32 := Scalar.muli v547 c1_i32_430
  let v549 : BitVec 32 := Scalar.addi c0_i32_431 v548
  v549.toNat
def k0_dev29 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_587 : BitVec 32 := 1#32
  let v709 : BitVec 32 := Scalar.xori v2 c1_i32_587
  let c1_i32_590 : BitVec 32 := 1#32
  let v710 : BitVec 32 := Scalar.muli v709 c1_i32_590
  let v711 : BitVec 32 := Scalar.addi c0_i32_591 v710
  v711.toNat
def k0_dev30 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_594 : BitVec 32 := 3#32
  let v718 : BitVec 32 := Scalar.xori v2 c3_i32_594
  let c1_i32_597 : BitVec 32 := 1#32
  let v719 : BitVec 32 := Scalar.muli v718 c1_i32_597
  let v720 : BitVec 32 := Scalar.addi c0_i32_598 v719
  v720.toNat
def k0_dev31 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_601 : BitVec 32 := 4#32
  let v727 : BitVec 32 := Scalar.xori v2 c4_i32_601
  let c1_i32_604 : BitVec 32 := 1#32
  let v728 : BitVec 32 := Scalar.muli v727 c1_i32_604
  let v729 : BitVec 32 := Scalar.addi c0_i32_605 v728
  v729.toNat
def k0_dev32 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_608 : BitVec 32 := 2#32
  let v736 : BitVec 32 := Scalar.xori v2 c2_i32_608
  let c1_i32_611 : BitVec 32 := 1#32
  let v737 : BitVec 32 := Scalar.muli v736 c1_i32_611
  let v738 : BitVec 32 := Scalar.addi c0_i32_612 v737
  v738.toNat
def k0_dev33 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_615 : BitVec 32 := 5#32
  let v745 : BitVec 32 := Scalar.xori v2 c5_i32_615
  let c1_i32_618 : BitVec 32 := 1#32
  let v746 : BitVec 32 := Scalar.muli v745 c1_i32_618
  let v747 : BitVec 32 := Scalar.addi c0_i32_619 v746
  v747.toNat
def k0_dev34 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_622 : BitVec 32 := 7#32
  let v754 : BitVec 32 := Scalar.xori v2 c7_i32_622
  let c1_i32_625 : BitVec 32 := 1#32
  let v755 : BitVec 32 := Scalar.muli v754 c1_i32_625
  let v756 : BitVec 32 := Scalar.addi c0_i32_626 v755
  v756.toNat
def k0_dev35 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_629 : BitVec 32 := 6#32
  let v763 : BitVec 32 := Scalar.xori v2 c6_i32_629
  let c1_i32_632 : BitVec 32 := 1#32
  let v764 : BitVec 32 := Scalar.muli v763 c1_i32_632
  let v765 : BitVec 32 := Scalar.addi c0_i32_633 v764
  v765.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v3 : BitVec 32 := Scalar.muli v2 c128_i32
  let v772 : Index := Scalar.indexCast v3
  let c0_636 : Index := 0#32
  ![v772.toNat, 0]
def k0_off6 (d0 : Dev nD) (c1_i32_640 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v779 : BitVec 32 := Scalar.xori v2 c1_i32_640
  let c128_i32_663 : BitVec 32 := 128#32
  let v800 : BitVec 32 := Scalar.muli v779 c128_i32_663
  let v801 : Index := Scalar.indexCast v800
  let c0_664 : Index := 0#32
  ![v801.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S512x512 : Shape := ⟨2, ![512, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8x1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S1024x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Geo.lean ====
/-
The mesh, the rectangles and the semaphores the kernel names, each in a closed form: the peer of a device in
a step (`xr`), the 64-row pieces and 128-row blocks of the 1024-row buffers, the landing slots, and the kernel's
offsets and device numbers as these.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TableIdle
public import Idealize.ShloMosaic.Lib.MemrefSat
public import Idealize.ShloMosaic.Lib.Transfers
public import Idealize.ShloMosaic.Lib.Tactic
public import Idealize.ShloMosaic.Lib.ValueIdxCore

@[expose] public section

noncomputable section

namespace RsAg

open Cert.KernelIdeal Cert.KernelIdeal.Gen
open Idealize.ShloMosaic
open Idealize.ShloMosaic.TcCoe

/-- A step of an exchange: the peer number `j` (the peer is the device number xor `j + 1`) and the half `s`. -/
abbrev X : Type := Fin 7 × Fin 2

set_option backward.proofsInPublic true in
/-- The peer of device `c` in the steps numbered `j`: its number xor `j + 1`. -/
def xr (c : Dev nD) (j : Fin 7) : Dev nD := ⟨(c.val ^^^ (j.val + 1)) % 8, Nat.mod_lt _ (by decide)⟩

/-- A peer's peer is the device itself. -/
theorem xr_xr (c : Dev nD) (j : Fin 7) : xr (xr c j) j = c := by revert c j; decide
/-- A device is never its own peer. -/
theorem xr_ne (c : Dev nD) (j : Fin 7) : xr c j ≠ c := by revert c j; decide
/-- Different peer numbers name different peers. -/
theorem xr_inj (c : Dev nD) : Function.Injective (xr c) := by
  intro j j'; revert c j j'; decide
/-- Every other device is a peer. -/
theorem xr_surj (c d : Dev nD) (h : d ≠ c) : ∃ j, xr c j = d := by revert c d; decide

/-- The exchange with the peers numbered `j` is a permutation of the devices. -/
def xrE (j : Fin 7) : Dev nD ≃ Dev nD := ⟨fun c => xr c j, fun c => xr c j, fun c => xr_xr c j, fun c => xr_xr c j⟩

/-! ## Rectangles -/

/-- First row of piece `s` of block `p`, and column 0. -/
def roff (p : Dev nD) (s : Fin 2) : Fin 2 → ℕ := ![128 * p.val + 64 * s.val, 0]
/-- First row of block `p`, and column 0. -/
def boff (p : Dev nD) : Fin 2 → ℕ := ![128 * p.val, 0]
/-- First row of half `s` of a block, and column 0. -/
def hoff (s : Fin 2) : Fin 2 → ℕ := ![64 * s.val, 0]
/-- The number of the landing slot of step `x`. -/
def sidx (x : X) : ℕ := 2 * x.1.val + x.2.val
/-- The landing slot of step `x` starts at slot number `sidx x`. -/
def soff (x : X) : Fin 3 → ℕ := ![sidx x, 0, 0]

theorem roff_inb (p : Dev nD) (s : Fin 2) : ∀ a, roff p s a + S64x512.size a ≤ S1024x512.size a := by revert p s; decide
theorem boff_inb (p : Dev nD) : ∀ a, boff p a + S128x512.size a ≤ S1024x512.size a := by revert p; decide
theorem hoff_inb (s : Fin 2) : ∀ a, hoff s a + S64x512.size a ≤ S128x512.size a := by revert s; decide
theorem soff_inb (x : X) : ∀ a, soff x a + S1x64x512.size a ≤ S14x64x512.size a := by revert x; decide

/-- The 64-row piece `s` of block `p` of a 1024-row buffer. -/
abbrev rRect (p : Dev nD) (s : Fin 2) : Rect S1024x512 := Rect.unit (s := S1024x512) (roff p s) S64x512.size (roff_inb p s)
/-- The 128-row block `p` of a 1024-row buffer. -/
abbrev bRect (p : Dev nD) : Rect S1024x512 := Rect.unit (s := S1024x512) (boff p) S128x512.size (boff_inb p)
/-- The 64-row half `s` of a 128-row buffer. -/
abbrev hRect (s : Fin 2) : Rect S128x512 := Rect.unit (s := S128x512) (hoff s) S64x512.size (hoff_inb s)
/-- The landing slot of step `x`. -/
abbrev sRect (x : X) : Rect S14x64x512 := Rect.unit (s := S14x64x512) (soff x) S1x64x512.size (soff_inb x)

theorem mem_rRect {p : Dev nD} {s : Fin 2} {i : S1024x512.Idx} :
    i ∈ (rRect p s).set ↔ 128 * p.val + 64 * s.val ≤ (i 0).val ∧ (i 0).val < 128 * p.val + 64 * s.val + 64 := by
  rw [Rect.mem_set_unit]
  constructor
  · intro h; exact h 0
  · intro h a
    match a with
    | ⟨0, _⟩ => exact h
    | ⟨1, _⟩ => exact ⟨Nat.zero_le _, by have := (i 1).isLt; simpa [roff] using this⟩

theorem mem_bRect {p : Dev nD} {i : S1024x512.Idx} :
    i ∈ (bRect p).set ↔ 128 * p.val ≤ (i 0).val ∧ (i 0).val < 128 * p.val + 128 := by
  rw [Rect.mem_set_unit]
  constructor
  · intro h; exact h 0
  · intro h a
    match a with
    | ⟨0, _⟩ => exact h
    | ⟨1, _⟩ => exact ⟨Nat.zero_le _, by have := (i 1).isLt; simpa [boff] using this⟩

theorem mem_hRect {s : Fin 2} {i : S128x512.Idx} :
    i ∈ (hRect s).set ↔ 64 * s.val ≤ (i 0).val ∧ (i 0).val < 64 * s.val + 64 := by
  rw [Rect.mem_set_unit]
  constructor
  · intro h; exact h 0
  · intro h a
    match a with
    | ⟨0, _⟩ => exact h
    | ⟨1, _⟩ => exact ⟨Nat.zero_le _, by have := (i 1).isLt; simpa [hoff] using this⟩

theorem mem_sRect {x : X} {i : S14x64x512.Idx} : i ∈ (sRect x).set ↔ (i 0).val = sidx x := by
  rw [Rect.mem_set_unit]
  constructor
  · intro h
    have h0 : sidx x ≤ (i 0).val ∧ (i 0).val < sidx x + 1 := h 0
    omega
  · intro h a
    match a with
    | ⟨0, _⟩ =>
      show sidx x ≤ (i 0).val ∧ (i 0).val < sidx x + 1
      omega
    | ⟨1, _⟩ => exact ⟨Nat.zero_le _, by have := (i 1).isLt; simpa [soff] using this⟩
    | ⟨2, _⟩ => exact ⟨Nat.zero_le _, by have := (i 2).isLt; simpa [soff] using this⟩

/-- The pieces are indexed by their block and half. -/
abbrev Pc : Type := Dev nD × Fin 2

theorem rRect_disj (t t' : Pc) (h : t ≠ t') : Disjoint (rRect t.1 t.2).set (rRect t'.1 t'.2).set := by
  rw [Finset.disjoint_left]; intro i h1 h2
  rw [mem_rRect] at h1 h2
  obtain ⟨⟨p, hp⟩, ⟨s, hs⟩⟩ := t; obtain ⟨⟨p', hp'⟩, ⟨s', hs'⟩⟩ := t'
  simp only [] at h1 h2
  apply h
  have : p = p' := by omega
  have : s = s' := by omega
  subst_vars; rfl

theorem rRect_cov : (Finset.univ : Finset Pc).biUnion (fun t => (rRect t.1 t.2).set) = Finset.univ := by
  ext i
  simp only [Finset.mem_biUnion, Finset.mem_univ, true_and, iff_true]
  have h : (i 0).val < 1024 := (i 0).isLt
  refine ⟨(⟨(i 0).val / 128, by show _ < 8; omega⟩, ⟨(i 0).val % 128 / 64, by omega⟩), ?_⟩
  rw [mem_rRect]; simp only []; omega

theorem bRect_disj (p p' : Dev nD) (h : p ≠ p') : Disjoint (bRect p).set (bRect p').set := by
  rw [Finset.disjoint_left]; intro i h1 h2
  rw [mem_bRect] at h1 h2
  exact h (Fin.ext (by omega))

theorem bRect_cov : (Finset.univ : Finset (Dev nD)).biUnion (fun p => (bRect p).set) = Finset.univ := by
  ext i
  simp only [Finset.mem_biUnion, Finset.mem_univ, true_and, iff_true]
  have h : (i 0).val < 1024 := (i 0).isLt
  refine ⟨⟨(i 0).val / 128, by show _ < 8; omega⟩, ?_⟩
  rw [mem_bRect]; simp only []; omega

theorem hRect_disj (s s' : Fin 2) (h : s ≠ s') : Disjoint (hRect s).set (hRect s').set := by
  rw [Finset.disjoint_left]; intro i h1 h2
  rw [mem_hRect] at h1 h2
  exact h (Fin.ext (by omega))

theorem hRect_cov : (Finset.univ : Finset (Fin 2)).biUnion (fun s => (hRect s).set) = Finset.univ := by
  ext i
  simp only [Finset.mem_biUnion, Finset.mem_univ, true_and, iff_true]
  have h : (i 0).val < 128 := (i 0).isLt
  refine ⟨⟨(i 0).val / 64, by omega⟩, ?_⟩
  rw [mem_hRect]; simp only []; omega

theorem sRect_disj (x x' : X) (h : x ≠ x') : Disjoint (sRect x).set (sRect x').set := by
  rw [Finset.disjoint_left]; intro i h1 h2
  rw [mem_sRect] at h1 h2
  obtain ⟨⟨j, hj⟩, ⟨s, hs⟩⟩ := x; obtain ⟨⟨j', hj'⟩, ⟨s', hs'⟩⟩ := x'
  simp only [sidx] at h1 h2
  apply h
  have : j = j' := by omega
  have : s = s' := by omega
  subst_vars; rfl

theorem sRect_cov : (Finset.univ : Finset X).biUnion (fun x => (sRect x).set) = Finset.univ := by
  ext i
  simp only [Finset.mem_biUnion, Finset.mem_univ, true_and, iff_true]
  have h : (i 0).val < 14 := (i 0).isLt
  refine ⟨(⟨(i 0).val / 2, by omega⟩, ⟨(i 0).val % 2, by omega⟩), ?_⟩
  rw [mem_sRect]; simp only [sidx]; omega

/-- A block is its two pieces. -/
theorem bRect_eq (p : Dev nD) : (bRect p).set = (rRect p 0).set ∪ (rRect p 1).set := by
  ext i
  rw [Finset.mem_union, mem_bRect, mem_rRect, mem_rRect]
  simp only [Fin.val_zero, Fin.val_one]; omega

/-! ## The kernel's offsets -/

/-- Piece `(p, s)` of the accumulator is half `s` of block `p`. -/
theorem bRect_hRect (p : Dev nD) (s : Fin 2) (y : S64x512.Idx) :
    (bRect p).emb ((hRect s).emb y) = (rRect p s).emb y := by
  funext a
  fin_cases a <;> (apply Fin.ext; simp [Rect.emb_apply, boff, hoff, roff]; try omega)

theorem off1_eq (c : Dev nD) (j : Fin 7) (s : Fin 2) :
    k0_off1 c (BitVec.ofNat 32 (1 + j.val)) (BitVec.ofNat 32 (64 * s.val)) = roff (xr c j) s := by
  revert c j s; decide +kernel
theorem off2_eq (c : Dev nD) (j : Fin 7) (s : Fin 2) :
    k0_off2 c (BitVec.ofNat 32 (1 + j.val)) (BitVec.ofNat 32 (64 * s.val)) = roff (xr c j) s := by
  revert c j s; decide +kernel
theorem off3_eq (c : Dev nD) (s : Fin 2) : k0_off3 c (BitVec.ofNat 32 (64 * s.val)) = roff c s := by
  revert c s; decide +kernel
theorem off4_eq (c : Dev nD) (s : Fin 2) : k0_off4 c (BitVec.ofNat 32 (64 * s.val)) = roff c s := by
  revert c s; decide +kernel
theorem off5_eq (c : Dev nD) : k0_off5 c = boff c := by
  revert c; decide +kernel
theorem off6_eq (c : Dev nD) (j : Fin 7) : k0_off6 c (BitVec.ofNat 32 (1 + j.val)) = boff (xr c j) := by
  revert c j; decide +kernel

/-! ## The memrefs -/

abbrev tM : Memref sig .tc .vmem S1024x512 .f32 := Memref.whole cc0_stg0_0
abbrev wM : Memref sig .tc .vmem S512x512 .f32 := Memref.whole cc0_stg1_0
abbrev oM : Memref sig .tc .vmem S1024x512 .bf16 := Memref.whole cc0_stg2_0
abbrev aM : Memref sig .tc .vmem S1024x512 .bf16 := Memref.whole cc0_scratch0
abbrev wbM : Memref sig .tc .vmem S512x512 .bf16 := Memref.whole cc0_scratch1
abbrev rdM : Memref sig .tc .vmem S128x512 .f32 := Memref.whole cc0_scratch2
abbrev rbM : Memref sig .tc .vmem S14x64x512 .bf16 := Memref.whole cc0_scratch3

/-- Piece `s` of block `p` of the accumulator. -/
abbrev aP (p : Dev nD) (s : Fin 2) : Memref sig .tc .vmem S64x512 .bf16 := aM.slice (rRect p s) (fun _ => rfl)
/-- Block `p` of the result. -/
abbrev oP (p : Dev nD) : Memref sig .tc .vmem S128x512 .bf16 := oM.slice (bRect p) (fun _ => rfl)
/-- Half `s` of the buffer of partial sums. -/
abbrev rdP (s : Fin 2) : Memref sig .tc .vmem S64x512 .f32 := rdM.slice (hRect s) (fun _ => rfl)
/-- The landing slot of step `x`, of shape 1 by 64 by 512. -/
abbrev rbP (x : X) : Memref sig .tc .vmem S1x64x512 .bf16 := rbM.slice (sRect x) (fun _ => rfl)
/-- The landing slot of step `x`, of shape 64 by 512. -/
abbrev rbQ (x : X) : Memref sig .tc .vmem S64x512 .bf16 := (rbP x).squeeze S64x512 squeezes_S1x64x512_S64x512

/-! ## The semaphores -/

/-- The kernel's barrier semaphore. -/
abbrev barS : Sem sig := (SemArray.scalar (sig.barrier 0 rfl) : Sems sig S_).sem
set_option backward.proofsInPublic true in
/-- The ready semaphore numbered `j`. -/
def rdyS (j : Fin 7) : Sem sig := ⟨j.val, by have := j.isLt; show _ < 8; omega⟩
set_option backward.proofsInPublic true in
/-- The transfer semaphore of step `x` in the array numbered `k`: 0 and 1 the sends and receipts of the first
    phase, 2 and 3 those of the second. -/
def dmaS (k : Fin 4) (x : X) : DmaSem sig :=
  ⟨3 + 14 * k.val + sidx x, by obtain ⟨⟨j, hj⟩, ⟨s, hs⟩⟩ := x; have := k.isLt; simp only [sidx]; show _ < 59; omega⟩

/-- The credit of one transfer of a piece. -/
abbrev N : ℕ := (aP 0 0).view.dmaCredit
theorem N_pos : 0 < N := View.dmaCredit_pos _ (by decide)

/-- Every piece of the accumulator has this credit, -/
theorem credit_aP (p : Dev nD) (s : Fin 2) : (aP p s).view.dmaCredit = N := rfl
/-- and so has every landing slot. -/
theorem credit_rbQ (x : X) : (rbQ x).view.dmaCredit = N := rfl

end RsAg
-- ==== Proof.Mem.lean ====
/-
Loads, stores and transfers of memrefs a device owns: the rules of the machine stated over `owns`.
-/
module

public import proofs.«01_k».proof.Proof.Geo

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {s : Shape} {e : EltTy} {A B : sProp (MT nD τ sig Unit (Elt F) ℕ UU ℕ)} {α : Type}
  {Q : α → sProp (MT nD τ sig Unit (Elt F) ℕ UU ℕ)}

/-- A load of a rectangle whose slice the device owns: the program goes on at what it owns there. -/
theorem step_load {M : Memref sig .tc .vmem s e} {off off' sz : Fin s.rank → ℕ} {inb : ∀ a, off a + sz a ≤ s.size a}
    {inb' : ∀ a, off' a + sz a ≤ s.size a} {hl : M.view.LoadsAt (Rect.unit off sz inb).toLoadRect} {q : PosShare TreeShare}
    {k : ((Rect.unit off sz inb).shape.Idx → Elt F e) → Prog (TpuEff nD τ sig (Elt F) Λ₀ .tc) α} {X : (Rect.unit off' sz inb').shape.Idx → Elt F e}
    (ho : off = off')
    (hf : A ⊢ iprop(owns (c : Thread nD τ) (M.slice (Rect.unit off' sz inb') (fun _ => rfl)) q X
      ∗ (owns (c : Thread nD τ) (M.slice (Rect.unit off' sz inb') (fun _ => rfl)) q X -∗ A)))
    (h : A ⊢ WP c (k X) Q) :
    A ⊢ WP c (.op (.load M (Rect.unit off sz inb).toLoadRect hl) k) Q := by
  subst ho
  refine hf.trans ?_
  unfold owns
  iintro ⟨⟨%f, %hX, H⟩, HA⟩
  iapply (wp_load_rect 𝒱₀ (c : Thread nD τ) none Set.univ (m := M) (r := Rect.unit off sz inb) (Finset.Subset.refl _)) $$ H
  iintro H
  rw [show (M.access (Rect.unit off sz inb)).read (Elt F) f = X from hX]
  iapply h
  iapply HA
  iexists f
  isplitr
  · ipureintro; exact hX
  iexact H

/-- A load of a rectangle whose slice the device owns at contents it does not know. -/
theorem step_load_any {M : Memref sig .tc .vmem s e} {off off' sz : Fin s.rank → ℕ} {inb : ∀ a, off a + sz a ≤ s.size a}
    {inb' : ∀ a, off' a + sz a ≤ s.size a} {hl : M.view.LoadsAt (Rect.unit off sz inb).toLoadRect} {q : PosShare TreeShare}
    {k : ((Rect.unit off sz inb).shape.Idx → Elt F e) → Prog (TpuEff nD τ sig (Elt F) Λ₀ .tc) α}
    (ho : off = off')
    (hf : A ⊢ iprop(∃ X, owns (c : Thread nD τ) (M.slice (Rect.unit off' sz inb') (fun _ => rfl)) q X
      ∗ (owns (c : Thread nD τ) (M.slice (Rect.unit off' sz inb') (fun _ => rfl)) q X -∗ A)))
    (h : ∀ X, A ⊢ WP c (k X) Q) :
    A ⊢ WP c (.op (.load M (Rect.unit off sz inb).toLoadRect hl) k) Q := by
  refine hf.trans ?_
  iintro ⟨%X, H, HA⟩
  iapply (step_load (A := iprop(owns (c : Thread nD τ) (M.slice (Rect.unit off' sz inb') (fun _ => rfl)) q X
      ∗ (owns (c : Thread nD τ) (M.slice (Rect.unit off' sz inb') (fun _ => rfl)) q X -∗ A))) (q := q) (X := X) ho
    (by iintro ⟨H, HA⟩; isplitl [H]; · iexact H
        iintro H; isplitl [H] <;> iassumption)
    (by iintro ⟨H, HA⟩; iapply (h X); iapply HA; iexact H))
  isplitl [H] <;> iassumption

/-- A store to a rectangle whose slice the device owns whole. -/
theorem step_store {M : Memref sig .tc .vmem s e} {off off' sz : Fin s.rank → ℕ} {inb : ∀ a, off a + sz a ≤ s.size a}
    {inb' : ∀ a, off' a + sz a ≤ s.size a} {w : (Rect.unit off' sz inb').shape.Idx → Elt F e}
    {hx : (M.access (Rect.unit off sz inb)).Stores Finset.univ} {hm : (Finset.univ : Finset (Rect.unit off sz inb).shape.Idx) = Finset.univ ∨ ∀ a, (Rect.unit off sz inb).stride a = 1}
    {k : PUnit.{1} → Prog (TpuEff nD τ sig (Elt F) Λ₀ .tc) α}
    (ho : off = off')
    (hf : A ⊢ iprop((∃ X, owns (c : Thread nD τ) (M.slice (Rect.unit off' sz inb') (fun _ => rfl)) fullShare X)
      ∗ (owns (c : Thread nD τ) (M.slice (Rect.unit off' sz inb') (fun _ => rfl)) fullShare w -∗ B)))
    (h : B ⊢ WP c (k ⟨⟩) Q) :
    A ⊢ WP c (.op (.store M (Rect.unit off sz inb) w Finset.univ hx hm) k) Q := by
  subst ho
  refine hf.trans ?_
  unfold owns
  iintro ⟨⟨%X, %f, -, H⟩, HA⟩
  iapply (wp_store 𝒱₀ (c : Thread nD τ) none Set.univ (m := M) (r := Rect.unit off sz inb) (Mk := Finset.univ)
    (S := (M.slice (Rect.unit off sz inb) (fun _ => rfl)).view.set) (f := f) (Finset.Subset.refl _)) $$ H
  iintro H
  iapply h
  iapply HA
  iexists ((M.access (Rect.unit off sz inb)).write (Elt F) f w Finset.univ)
  isplitr
  · ipureintro; exact (M.access (Rect.unit off sz inb)).read_write_univ f w
  iexact H

omit [FloatOps F] in
/-- A memref owned is any slice of it owned, and the rest to put it back to. -/
theorem owns_slice {M : Memref sig .tc .vmem s e} (r : Rect s) (hr : ∀ a, r.stride a = 1) {q : PosShare TreeShare} (X : s.Idx → Elt F e) :
    (owns (c : Thread nD τ) M q X : sProp 𝕄) ⊢ iprop(owns (c : Thread nD τ) (M.slice r hr) q (fun y => X (r.emb y))
      ∗ (owns (c : Thread nD τ) (M.slice r hr) q (fun y => X (r.emb y)) -∗ owns (c : Thread nD τ) M q X)) := by
  unfold owns
  iintro ⟨%f, %hf, H⟩
  ihave H2 := (pointsTo_split_subset (M.view.set_slice_subset r)).1 $$ H
  icases H2 with ⟨H, Hr⟩
  isplitl [H]
  · iexists f
    isplitr
    · ipureintro; subst hf; rfl
    iexact H
  iintro ⟨%g, %hg, H⟩
  iexists f
  isplitr
  · ipureintro; exact hf
  iapply (pointsTo_split_subset (M.view.set_slice_subset r)).2
  isplitl [H]
  · have e : (M.view.loc (c : Thread nD τ) ↦[(M.view.slice r).set]{q} f : sProp 𝕄)
        = (M.view.loc (c : Thread nD τ) ↦[(M.view.slice r).set]{q} (show Buf (Elt F) (M.view.loc (c : Thread nD τ)) from g)) := by
      refine pointsTo_congr fun i hi => ?_
      obtain ⟨y, -, rfl⟩ := Finset.mem_map.mp hi
      have h1 := congrFun hg y
      subst hf
      exact (cast_inj _).mp h1.symm
    iapply (Entails.of_eq e.symm)
    iexact H
  iexact Hr

omit [FloatOps F] in
/-- Owning a memref is owning it through other coordinates. -/
theorem owns_squeeze {M : Memref sig .tc .vmem s e} (s' : Shape) (hs : s.Squeezes s') {q : PosShare TreeShare} (X : s'.Idx → Elt F e) :
    (owns (c : Thread nD τ) (M.squeeze s' hs) q X : sProp 𝕄) ⊢ owns (c : Thread nD τ) M q (fun y => X ((Shape.reshapeEquiv hs.numel_eq).symm y)) := by
  unfold owns
  iintro ⟨%f, %hf, H⟩
  iexists f
  isplitr
  · ipureintro
    subst hf
    funext y
    simp only [View.read_apply]
    show _ = cast _ (f (M.view.emb ((Shape.reshapeEquiv hs.numel_eq) ((Shape.reshapeEquiv hs.numel_eq).symm y))))
    rw [Equiv.apply_symm_apply]
  iapply (Entails.of_eq (congrArg (fun S => (M.view.loc (c : Thread nD τ) ↦[S]{q} (show Buf (Elt F) (M.view.loc (c : Thread nD τ)) from f) : sProp 𝕄))
    (View.set_reshape M.view hs.numel_eq)))
  iexact H

omit [FloatOps F] in
/-- And back. -/
theorem owns_unsqueeze {M : Memref sig .tc .vmem s e} (s' : Shape) (hs : s.Squeezes s') {q : PosShare TreeShare} (X : s.Idx → Elt F e) :
    (owns (c : Thread nD τ) M q X : sProp 𝕄) ⊢ owns (c : Thread nD τ) (M.squeeze s' hs) q (fun y => X (Shape.reshapeEquiv hs.numel_eq y)) := by
  unfold owns
  iintro ⟨%f, %hf, H⟩
  iexists f
  isplitr
  · ipureintro
    subst hf
    rfl
  iapply (Entails.of_eq (congrArg (fun S => (M.view.loc (c : Thread nD τ) ↦[S]{q} (show Buf (Elt F) (M.view.loc (c : Thread nD τ)) from f) : sProp 𝕄))
    (View.set_reshape M.view hs.numel_eq).symm))
  iexact H

/-! ## A block of the accumulator -/

/-- A block's contents from its two pieces'. -/
def cat (Xs : Fin 2 → Vec F S64x512 .bf16) : Vec F S128x512 .bf16 := Rect.glue hRect hRect_cov Xs

omit [FloatOps F] in
/-- At a place of piece `s` the block holds what the piece does. -/
theorem cat_emb (Xs : Fin 2 → Vec F S64x512 .bf16) (s : Fin 2) (y : S64x512.Idx) : cat Xs ((hRect s).emb y) = Xs s y :=
  Rect.glue_emb hRect hRect_cov hRect_disj Xs s y

/-- A load of a block of the accumulator whose two pieces the device owns. -/
theorem step_load_block {off : Fin 2 → ℕ} {inb : ∀ a, off a + S128x512.size a ≤ S1024x512.size a}
    {hl : aM.view.LoadsAt (Rect.unit (s := S1024x512) off S128x512.size inb).toLoadRect} {p : Dev nD} {q : PosShare TreeShare}
    {k : (S128x512.Idx → Elt F .bf16) → Prog (TpuEff nD τ sig (Elt F) Λ₀ .tc) α} {Xs : Fin 2 → Vec F S64x512 .bf16}
    (ho : off = boff p)
    (hf : A ⊢ iprop((owns (c : Thread nD τ) (aP p 0) q (Xs 0) ∗ owns (c : Thread nD τ) (aP p 1) q (Xs 1))
      ∗ ((owns (c : Thread nD τ) (aP p 0) q (Xs 0) ∗ owns (c : Thread nD τ) (aP p 1) q (Xs 1)) -∗ A)))
    (h : A ⊢ WP c (k (cat Xs)) Q) :
    A ⊢ WP c (.op (.load aM (Rect.unit (s := S1024x512) off S128x512.size inb).toLoadRect hl) k) Q := by
  subst ho
  refine hf.trans ?_
  unfold owns
  iintro ⟨⟨⟨%f, %hf, H0⟩, ⟨%g, %hg, H1⟩⟩, HA⟩
  have hd : Disjoint (aP p 0).view.set (aP p 1).view.set := by
    rw [View.set_slice_whole, View.set_slice_whole]
    exact rRect_disj (p, 0) (p, 1) (fun h => absurd (show (0 : Fin 2) = 1 from congrArg Prod.snd h) (by decide))
  have hs : ((aM : Memref sig .tc .vmem S1024x512 .bf16).access (bRect p)).set = (aP p 0).view.set ∪ (aP p 1).view.set := by
    rw [View.set_slice_whole, View.set_slice_whole, View.set_slice_whole, bRect_eq]
  let f' : Buf (Elt F) ((aP p 0).view.loc (c : Thread nD τ)) := (aP p 1).view.set.piecewise g f
  have e0 : ∀ i ∈ (aP p 0).view.set, f i = f' i := fun i hi =>
    (Finset.piecewise_eq_of_notMem _ _ _ (Finset.disjoint_left.mp hd hi)).symm
  have e1 : ∀ i ∈ (aP p 1).view.set, g i = f' i := fun i hi => (Finset.piecewise_eq_of_mem _ _ _ hi).symm
  have hr0 : (aP p 0).view.read (Elt F) f' = Xs 0 := by
    rw [← hf]; funext y; exact (e0 _ (View.emb_mem_set _ y)).symm
  have hr1 : (aP p 1).view.read (Elt F) f' = Xs 1 := by
    rw [← hg]; funext y; exact (e1 _ (View.emb_mem_set _ y)).symm
  have hr : ((aM : Memref sig .tc .vmem S1024x512 .bf16).access (bRect p)).read (Elt F) f' = cat Xs := by
    refine Rect.ext_of_cover hRect hRect_cov fun s y => ?_
    rw [cat_emb]
    show f' ((bRect p).emb ((hRect s).emb y)) = _
    rw [bRect_hRect]
    fin_cases s
    · exact congrFun hr0 y
    · exact congrFun hr1 y
  ihave H := (pointsTo_union (f := f') hd).2 $$ [H0 H1]
  · isplitl [H0]
    · iapply (Entails.of_eq (pointsTo_congr e0)); iexact H0
    · iapply (Entails.of_eq (pointsTo_congr e1)); iexact H1
  rw [← hs]
  iapply (wp_load_rect 𝒱₀ (c : Thread nD τ) none Set.univ (m := aM) (r := bRect p) (Finset.Subset.refl _)) $$ H
  iintro H
  rw [hr, hs]
  ihave H2 := (pointsTo_union (f := f') hd).1 $$ H
  icases H2 with ⟨H0, H1⟩
  iapply h
  iapply HA
  isplitl [H0]
  · iexists f'
    isplitr
    · ipureintro; exact hr0
    iexact H0
  · iexists f'
    isplitr
    · ipureintro; exact hr1
    iexact H1

omit [FloatOps F] in
/-- One member of a family taken out, and the place it may be put back to changed. -/
theorem bigSep_focus {I : Type} [Fintype I] [DecidableEq I] {Φ Ψ : I → sProp 𝕄} (i : I) (h : ∀ j, j ≠ i → Ψ j = Φ j) :
    bigSep Finset.univ Φ ⊢ iprop(Φ i ∗ (Ψ i -∗ bigSep Finset.univ Ψ)) := by
  have e (Θ : I → sProp 𝕄) : bigSep Finset.univ Θ = iprop(Θ i ∗ bigSep (Finset.univ.erase i) Θ) := bigSep_univ_split i
  rw [e Φ, e Ψ]
  iintro ⟨Hi, Hr⟩
  isplitl [Hi]; · iexact Hi
  iintro Hi
  isplitl [Hi]; · iexact Hi
  rw [show bigSep (Finset.univ.erase i) Ψ = bigSep (Finset.univ.erase i) Φ from bigSep_congr fun j hj => h j (Finset.ne_of_mem_erase hj)]
  iexact Hr

end RsAg
-- ==== Proof.Sched.lean ====
/-
What the buffers hold, and the protocol: the semaphores' cells, what each hands over, their levels and what a
device owes.
-/
module

public import proofs.«01_k».proof.Proof.Mem

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → Vec F S1024x512 .f32) (Wt : Dev nD → Vec F S512x512 .f32)

/-! ## Contents -/

/-- Piece `(p, s)` of device `c`'s operand. -/
def tP (c p : Dev nD) (s : Fin 2) : Vec F S64x512 .f32 := fun y => T c ((rRect p s).emb y)
/-- The piece device `c` sends to `p` in the first phase. -/
def rsV (c p : Dev nD) (s : Fin 2) : Vec F S64x512 .bf16 := k0_pay2 (tP T c p s)
/-- The same, as a landing slot holds it. -/
def slV (c p : Dev nD) (s : Fin 2) : Vec F S1x64x512 .bf16 :=
  fun y => rsV T c p s ((Shape.reshapeEquiv squeezes_S1x64x512_S64x512.numel_eq).symm y)
/-- The order in which a device takes the peers' pieces. -/
def jord (n : ℕ) : Fin 7 := match n with
  | 0 => 0 | 1 => 2 | 2 => 3 | 3 => 1 | 4 => 4 | 5 => 6 | _ => 5
/-- The sum device `c` has of piece `(c, s)` after `n` of the peers' pieces. -/
def redV (c : Dev nD) (s : Fin 2) : ℕ → Vec F S64x512 .f32
  | 0 => k0_pay18 (tP T c c s)
  | n + 1 => k0_pay19 (redV c s n) (slV T (xr c (jord n)) c s)
/-- Piece `(p, s)` of the reduced operand. -/
def accV (p : Dev nD) (s : Fin 2) : Vec F S64x512 .bf16 := k0_pay26 (redV T p s 7)
/-- The weights as the product takes them. -/
def wbV (c : Dev nD) : Vec F S512x512 .bf16 := k0_pay17 (Wt c)
/-- Block `p` of device `c`'s result. -/
def outV (c p : Dev nD) : Vec F S128x512 .bf16 := k0_pay38 (cat (accV T p)) (wbV Wt c)

/-! ## The cells -/

/-- The kernel's own semaphores: the ready ones and the transfers'. -/
abbrev OI : Type := Fin 7 ⊕ (Fin 4 × X)
/-- All semaphores of the protocol: the barrier's and the kernel's own. -/
abbrev CI : Type := Unit ⊕ OI

set_option backward.proofsInPublic true in
/-- The semaphore of a cell. -/
def csem : CI → SemLoc sig
  | .inl _ => .reg barS
  | .inr (.inl j) => .reg (rdyS j)
  | .inr (.inr kx) => .dma (dmaS kx.1 kx.2)
/-- The kernel's own semaphores. -/
abbrev osem (i : OI) : SemLoc sig := csem (.inr i)

set_option maxRecDepth 20000 in
theorem csem_inj : Function.Injective csem := by decide +kernel

/-- Cell `i` of device `c`. -/
abbrev kcell (ci : Dev nD × CI) : GSem nD τ sig := ((ci.1 : Thread nD τ), csem ci.2)
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

/-- The cell a semaphore is, if one. -/
def decode (s : SemLoc sig) : Option CI := Function.partialInv csem s
theorem decode_csem (i : CI) : decode (csem i) = some i := Function.partialInv_left csem_inj i

/-- What one landing or signal of a cell counts. -/
def amt : CI → ℕ
  | .inr (.inr _) => N
  | _ => 1
theorem amt_pos (i : CI) : 0 < amt i := by
  rcases i with _ | _ | _
  · exact Nat.one_pos
  · exact Nat.one_pos
  · exact N_pos

/-- The share of an own piece numbered `i`: 0 to 6 for the copies to the peers, 7 kept. -/
def qs (i : Fin 8) : PosShare TreeShare := Transfers.dealOf fullShare Finset.univ i

/-- What a cell of device `c` hands over. A ready signal: the peer's two landing slots. A receipt of the first
    phase: the slot, holding the peer's piece, and the peer's room for the reduced piece. A send of the second
    phase: the share that was sent from. A receipt of the second phase: the peer's reduced piece. -/
def pay (c : Dev nD) : CI → sProp 𝕄
  | .inl _ => iprop(emp)
  | .inr (.inl j) => iprop((∃ v, owns (xr c j : Thread nD τ) (rbP (j, 0)) fullShare v) ∗ ∃ v, owns (xr c j : Thread nD τ) (rbP (j, 1)) fullShare v)
  | .inr (.inr (⟨0, _⟩, x)) => iprop(emp)
  | .inr (.inr (⟨1, _⟩, x)) => iprop(owns (c : Thread nD τ) (rbP x) fullShare (slV T (xr c x.1) c x.2)
      ∗ ∃ v, owns (xr c x.1 : Thread nD τ) (aP c x.2) fullShare v)
  | .inr (.inr (⟨2, _⟩, x)) => owns (c : Thread nD τ) (aP c x.2) (qs x.1.castSucc) (accV T c x.2)
  | .inr (.inr (⟨_, _⟩, x)) => owns (c : Thread nD τ) (aP (xr c x.1) x.2) fullShare (accV T (xr c x.1) x.2)

instance pay_storable (c : Dev nD) (i : CI) : BI.Storable (upEmb : UEmb _ 𝕄) (pay T c i) := by
  rcases i with _ | j | ⟨⟨_ | _ | _ | k, hk⟩, x⟩
  · show BI.Storable upEmb (iprop(emp) : sProp 𝕄); infer_instance
  · show BI.Storable upEmb (iprop((∃ v, owns (xr c j : Thread nD τ) (rbP (j, 0)) fullShare v) ∗ ∃ v, owns (xr c j : Thread nD τ) (rbP (j, 1)) fullShare v) : sProp 𝕄)
    infer_instance
  · show BI.Storable upEmb (iprop(emp) : sProp 𝕄); infer_instance
  · show BI.Storable upEmb (iprop(owns (c : Thread nD τ) (rbP x) fullShare (slV T (xr c x.1) c x.2)
      ∗ ∃ v, owns (xr c x.1 : Thread nD τ) (aP c x.2) fullShare v) : sProp 𝕄)
    infer_instance
  · exact owns_storable _ _ _ _
  · exact owns_storable _ _ _ _

set_option backward.proofsInPublic true in
/-- The protocol: each cell has one round, with one duty. -/
def Rd : Rounds.Schedule (GSem nD τ sig) Unit 𝕄 where
  duties g r := if r = 0 ∧ g.1.2 = .tc ∧ (decode g.2).isSome then {()} else ∅
  unitless _ := False
  amount g _ _ := (decode g.2).elim 1 amt
  payload g _ _ := (decode g.2).elim (iprop(emp)) (pay T g.1.1)
  amount_pos g _ _ _ := by
    cases decode g.2 with
    | none => exact Nat.one_pos
    | some i => exact amt_pos i

instance Rd_storable (g : GSem nD τ sig) (r : ℕ) (d : Unit) : BI.Storable (upEmb : UEmb _ 𝕄) ((Rd T).payload g r d) := by
  show BI.Storable upEmb ((decode g.2).elim (iprop(emp)) (pay T g.1.1))
  cases decode g.2 with
  | none => show BI.Storable upEmb (iprop(emp) : sProp 𝕄); infer_instance
  | some i => exact pay_storable T g.1.1 i

theorem duties_eq (c : Dev nD) (i : CI) : (Rd T).duties (kcell (c, i)) 0 = {()} :=
  if_pos ⟨rfl, rfl, by show (decode (csem i)).isSome = true; rw [decode_csem]; rfl⟩
theorem duties_mem (c : Dev nD) (i : CI) : () ∈ (Rd T).duties (kcell (c, i)) 0 := by
  rw [duties_eq]; exact Finset.mem_singleton_self _
theorem duties_later (g : GSem nD τ sig) : ∀ r, 1 ≤ r → (Rd T).duties g r = ∅ :=
  fun r hr => if_neg fun h => by omega
theorem amount_eq (c : Dev nD) (i : CI) (u : Unit) : (Rd T).amount (kcell (c, i)) 0 u = amt i := by
  show (decode (csem i)).elim 1 amt = amt i
  rw [decode_csem]; rfl
theorem payload_eq (c : Dev nD) (i : CI) (u : Unit) : (Rd T).payload (kcell (c, i)) 0 u = pay T c i := by
  show (decode (csem i)).elim (iprop(emp)) (pay T c) = pay T c i
  rw [decode_csem]; rfl
theorem expect_eq (c : Dev nD) (i : CI) : (Rd T).expect (kcell (c, i)) 0 = amt i := by
  unfold Schedule.expect Schedule.amountOf; rw [duties_eq, Finset.sum_singleton, amount_eq]
theorem rest_eq (c : Dev nD) (i : CI) :
    bigSep ((Rd T).duties (kcell (c, i)) 0 \ ∅) (fun u => (Rd T).payload (kcell (c, i)) 0 u) = pay T c i := by
  rw [Finset.sdiff_empty, duties_eq, bigSep_singleton, payload_eq]

/-! ## Levels, and what a device owes -/

/-- The level of a cell: whoever waits at it owes only cells of a higher one. -/
def clev : CI → ℕ
  | .inl _ => 1
  | .inr (.inl _) => 2
  | .inr (.inr (⟨1, _⟩, _)) => 3
  | .inr (.inr (⟨3, _⟩, _)) => 4
  | _ => 1

def L (g : GSem nD τ sig) : Finset Unit := if g.1.2 = .tc then {()} else ∅
def lv (g : GSem nD τ sig) (_ : Unit) : ℕ := (decode g.2).elim 0 clev
theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (i : CI) (u : Unit) : lv (kcell (c, i)) u = clev i := by
  show (decode (csem i)).elim 0 clev = clev i
  rw [decode_csem]; rfl

/-- The device whose cell `i` device `c` signals or sends to. -/
def tgt (c : Dev nD) : CI → Dev nD
  | .inl _ => c
  | .inr (.inl j) => xr c j
  | .inr (.inr (⟨1, _⟩, x)) => xr c x.1
  | .inr (.inr (⟨3, _⟩, x)) => xr c x.1
  | _ => c
theorem tgt_tgt (c : Dev nD) (i : CI) : tgt (tgt c i) i = c := by
  rcases i with _ | j | ⟨⟨_ | _ | _ | _ | k, hk⟩, x⟩ <;> first | rfl | exact xr_xr c _ | omega
/-- The signalling devices as a permutation. -/
def tgtE (i : CI) : Dev nD ≃ Dev nD := ⟨fun c => tgt c i, fun c => tgt c i, fun c => tgt_tgt c i, fun c => tgt_tgt c i⟩

/-- What device `c` owes when the cells in `P` are unpaid. -/
def debt (c : Dev nD) (P : CI → Bool) : CellTallies nD τ sig Unit :=
  ∑ i : CI, if P i then tallyAt (kcell (tgt c i, i)) () (amt i) else 0

/-- Paying one cell. -/
theorem debt_pay {c : Dev nD} {P P' : CI → Bool} (i : CI) (h : P i = true) (h' : P' i = false) (he : ∀ j, j ≠ i → P' j = P j) :
    debt c P = debt c P' + tallyAt (kcell (tgt c i, i)) () (amt i) := by
  unfold debt
  rw [← Finset.add_sum_erase _ _ (Finset.mem_univ i), ← Finset.add_sum_erase (a := i) Finset.univ (fun i : CI => if P' i then tallyAt (kcell (tgt c i, i)) () (amt i) else 0) (Finset.mem_univ i),
    if_pos h, if_neg (by rw [h']; decide), zero_add, add_comm]
  congr 1
  exact Finset.sum_congr rfl fun j hj => by rw [he j (Finset.ne_of_mem_erase hj)]

theorem debt_pos {c : Dev nD} {P : CI → Bool} {g : GSem nD τ sig} {u : Unit} (h : 0 < debt c P g u) :
    ∃ i, P i = true ∧ g = kcell (tgt c i, i) := by
  unfold debt at h
  rw [Finset.sum_apply, Finsupp.finset_sum_apply] at h
  obtain ⟨i, -, hi⟩ := Finset.exists_ne_zero_of_sum_ne_zero h.ne'
  by_cases hP : P i = true
  · rw [if_pos hP, tallyAt_apply] at hi
    by_cases hg : g = kcell (tgt c i, i) ∧ u = ()
    · exact ⟨i, hP, hg.1⟩
    · rw [if_neg hg] at hi; exact absurd rfl hi
  · rw [if_neg hP] at hi; exact absurd rfl hi

omit [FloatOps F] in
/-- A device may wait at a semaphore whose level is below all it owes. -/
theorem mayWait (c : Dev nD) (sm : SemLoc sig) (P : CI → Bool) (h : ∀ i, P i = true → lv ((c : Thread nD τ), sm) () < clev i) :
    (levAts L lv : sProp 𝕄) ⊢ MayWait (c : Thread nD τ) sm () (debt c P) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := debt_pos hg; rw [L_tc]; exact Finset.mem_singleton_self _)
    (fun p hp => by rw [Finset.mem_singleton.mp hp])
    (fun g u hg => by obtain ⟨i, hi, rfl⟩ := debt_pos hg; rw [lv_kcell]; exact h i hi)

end RsAg
-- ==== Proof.State.lean ====
/-
What a device holds while the kernel runs, by how far each step of the exchange is; and the kernel's operations as
steps from one such state to the next.
-/
module

public import proofs.«01_k».proof.Proof.Sched

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → Vec F S1024x512 .f32) (Wt : Dev nD → Vec F S512x512 .f32) (K : Dev nD × CI → ℕ)

/-- How far a device is: with the barrier (`b`: 0 before its signal, 1 before its wait, 2 after), with each ready
    semaphore (`r`, the same), with each step of the exchange (`x`, 0 to 9), with the weights' cast (`wb`), with the
    partial sums (`rd`: 0 nothing, `n + 1` after `n` peers), with its own reduced pieces (`ow`) and with the blocks
    of its result (`ou`: its own, and each peer's). -/
structure Stage where
  b : ℕ
  r : Fin 7 → ℕ
  x : X → ℕ
  wb : ℕ
  rd : Fin 2 → ℕ
  ow : Fin 2 → ℕ
  ou : Option (Fin 7) → ℕ

/-- The device of a block of the result: its own, or a peer's. -/
def rel (c : Dev nD) : Option (Fin 7) → Dev nD
  | none => c
  | some j => xr c j

abbrev cB : CI := .inl ()
abbrev cR (j : Fin 7) : CI := .inr (.inl j)
abbrev cX (k : Fin 4) (x : X) : CI := .inr (.inr (k, x))

/-- The cells still unpaid. -/
def pend (d : Stage) : CI → Bool
  | .inl _ => d.b = 0
  | .inr (.inl j) => d.r j = 0
  | .inr (.inr (⟨1, _⟩, x)) => d.x x < 3
  | .inr (.inr (⟨3, _⟩, x)) => d.x x < 7
  | _ => false

section Parts
variable (c : Dev nD)

/-- The right to pay cell `i`. -/
abbrev tk (i : CI) : sProp 𝕄 := dutyTok ER (kcell (tgt c i, i)) 0 ()
/-- The position at the device's own cell `i`, at the beginning. -/
abbrev at0 (i : CI) : sProp 𝕄 := atPos ER (kcell (c, i)) 0 ∅ 0
/-- The credit of cell `i`. -/
abbrev cr (i : CI) : sProp 𝕄 := cred (tallyAt (kcell (c, i)) () (amt i))
/-- The semaphore of cell `i` at zero, its round over. -/
abbrev sv (i : CI) : sProp 𝕄 := semVal (kcell (c, i)) 0

/-- What is held for the barrier. -/
def PB : ℕ → sProp 𝕄
  | 0 => iprop(tk c cB ∗ at0 c cB ∗ cr c cB)
  | 1 => iprop(at0 c cB ∗ cr c cB)
  | _ => sv c cB

/-- What is held for the ready semaphore numbered `j`: at first also the device's two landing slots of peer `j`. -/
def PJ (j : Fin 7) : ℕ → sProp 𝕄
  | 0 => iprop(tk c (cR j) ∗ at0 c (cR j) ∗ cr c (cR j)
      ∗ (∃ v, owns (c : Thread nD τ) (rbP (j, 0)) fullShare v) ∗ ∃ v, owns (c : Thread nD τ) (rbP (j, 1)) fullShare v)
  | 1 => iprop(at0 c (cR j) ∗ cr c (cR j))
  | _ => sv c (cR j)

/-- The ghost state of the first phase's step `x`, -/
abbrev G1 (x : X) : sProp 𝕄 := iprop(tk c (cX 0 x) ∗ tk c (cX 1 x) ∗ at0 c (cX 0 x) ∗ at0 c (cX 1 x) ∗ cr c (cX 1 x))
/-- and of the second's. -/
abbrev G2 (x : X) : sProp 𝕄 := iprop(tk c (cX 2 x) ∗ tk c (cX 3 x) ∗ at0 c (cX 2 x) ∗ at0 c (cX 3 x) ∗ cr c (cX 3 x))
/-- The share of the own reduced piece that goes to the peer. -/
abbrev own1 (x : X) : sProp 𝕄 := owns (c : Thread nD τ) (aP c x.2) (qs x.1.castSucc) (accV T c x.2)
/-- The landing slot, filled. -/
abbrev slot1 (x : X) : sProp 𝕄 := owns (c : Thread nD τ) (rbP x) fullShare (slV T (xr c x.1) c x.2)

/-- What is held for step `x` of the exchange: 0 at first; 1 with the peer's slot; 2 with the piece to send cast;
    3 sent; 4 the send waited for; 5 the peer's piece received; 6 with the share of the reduced piece to send;
    7 that sent; 8 that send waited for; 9 the peer's reduced piece received. -/
def PX (x : X) : ℕ → sProp 𝕄
  | 0 => iprop(G1 c x ∗ G2 c x ∗ ∃ v, owns (c : Thread nD τ) (aP (xr c x.1) x.2) fullShare v)
  | 1 => iprop(G1 c x ∗ G2 c x ∗ (∃ v, owns (c : Thread nD τ) (aP (xr c x.1) x.2) fullShare v)
      ∗ ∃ v, owns (xr c x.1 : Thread nD τ) (rbP x) fullShare v)
  | 2 => iprop(G1 c x ∗ G2 c x ∗ owns (c : Thread nD τ) (aP (xr c x.1) x.2) fullShare (rsV T c (xr c x.1) x.2)
      ∗ ∃ v, owns (xr c x.1 : Thread nD τ) (rbP x) fullShare v)
  | 3 => iprop(at0 c (cX 0 x) ∗ cr c (cX 0 x) ∗ at0 c (cX 1 x) ∗ cr c (cX 1 x) ∗ G2 c x)
  | 4 => iprop(sv c (cX 0 x) ∗ at0 c (cX 1 x) ∗ cr c (cX 1 x) ∗ G2 c x)
  | 5 => iprop(sv c (cX 0 x) ∗ sv c (cX 1 x) ∗ slot1 T c x ∗ G2 c x ∗ ∃ v, owns (xr c x.1 : Thread nD τ) (aP c x.2) fullShare v)
  | 6 => iprop(sv c (cX 0 x) ∗ sv c (cX 1 x) ∗ slot1 T c x ∗ G2 c x ∗ (∃ v, owns (xr c x.1 : Thread nD τ) (aP c x.2) fullShare v) ∗ own1 T c x)
  | 7 => iprop(sv c (cX 0 x) ∗ sv c (cX 1 x) ∗ slot1 T c x ∗ at0 c (cX 2 x) ∗ cr c (cX 2 x) ∗ at0 c (cX 3 x) ∗ cr c (cX 3 x))
  | 8 => iprop(sv c (cX 0 x) ∗ sv c (cX 1 x) ∗ slot1 T c x ∗ sv c (cX 2 x) ∗ own1 T c x ∗ at0 c (cX 3 x) ∗ cr c (cX 3 x))
  | _ => iprop(sv c (cX 0 x) ∗ sv c (cX 1 x) ∗ slot1 T c x ∗ sv c (cX 2 x) ∗ own1 T c x ∗ sv c (cX 3 x)
      ∗ owns (c : Thread nD τ) (aP (xr c x.1) x.2) fullShare (accV T (xr c x.1) x.2))

/-- The weights as staged, and the buffer of their cast. -/
abbrev wP : Memref sig .tc .vmem S512x512 .f32 :=
  wM.slice (Rect.unit (s := S512x512) ![0, 0] S512x512.size inb_S512x512_S512x512_0_0) (fun _ => rfl)
abbrev wbP : Memref sig .tc .vmem S512x512 .bf16 :=
  wbM.slice (Rect.unit (s := S512x512) ![0, 0] S512x512.size inb_S512x512_S512x512_0_0) (fun _ => rfl)

def PW : ℕ → sProp 𝕄
  | 0 => iprop(∃ v, owns (c : Thread nD τ) wbP fullShare v)
  | _ => owns (c : Thread nD τ) wbP fullShare (wbV Wt c)
def PR (s : Fin 2) : ℕ → sProp 𝕄
  | 0 => iprop(∃ v, owns (c : Thread nD τ) (rdP s) fullShare v)
  | n + 1 => owns (c : Thread nD τ) (rdP s) fullShare (redV T c s n)
def PO (s : Fin 2) : ℕ → sProp 𝕄
  | 0 => iprop(∃ v, owns (c : Thread nD τ) (aP c s) fullShare v)
  | _ => owns (c : Thread nD τ) (aP c s) (qs (Fin.last 7)) (accV T c s)
def PU (p : Dev nD) : ℕ → sProp 𝕄
  | 0 => iprop(∃ v, owns (c : Thread nD τ) (oP p) fullShare v)
  | _ => owns (c : Thread nD τ) (oP p) fullShare (outV T Wt c p)

end Parts

/-- What every device knows of the protocol. -/
def recs : sProp 𝕄 :=
  iprop((bigSep Finset.univ fun ci : Dev nD × CI => cellInv ER (Rd T) (K ci) (kcell ci))
    ∗ (bigSep Finset.univ fun ci : Dev nD × CI => reached ER (kcell ci) 0) ∗ levAts L lv)

instance recs_persistent : BI.Persistent (recs T K) := by unfold recs; infer_instance

/-- What device `c` owes with the cells in `P` unpaid. -/
def Ow (c : Dev nD) (P : CI → Bool) : sProp 𝕄 := iprop(∃ W, owes (c : Thread nD τ) (debt c P) W)

/-- Device `c` at stage `d`. -/
def St (c : Dev nD) (d : Stage) : sProp 𝕄 :=
  iprop(recs T K ∗ Ow c (pend d) ∗ PB c d.b ∗ (bigSep Finset.univ fun j => PJ c j (d.r j)) ∗ (bigSep Finset.univ fun x => PX T c x (d.x x))
    ∗ owns (c : Thread nD τ) tM fullShare (T c) ∗ owns (c : Thread nD τ) wP fullShare (Wt c) ∗ PW Wt c d.wb
    ∗ (bigSep Finset.univ fun s => PR T c s (d.rd s)) ∗ (bigSep Finset.univ fun s => PO T c s (d.ow s))
    ∗ (bigSep Finset.univ fun i => PU T Wt c (rel c i) (d.ou i)))

/-! ## The records -/

theorem recs_inv (ci : Dev nD × CI) : recs T K ⊢ cellInv ER (Rd T) (K ci) (kcell ci) := by
  have h : (bigSep Finset.univ fun ci : Dev nD × CI => (cellInv ER (Rd T) (K ci) (kcell ci) : sProp 𝕄)) ⊢ cellInv ER (Rd T) (K ci) (kcell ci) :=
    bigSep_elim (Finset.mem_univ ci)
  unfold recs
  iintro ⟨H, -⟩
  iapply h; iexact H
theorem recs_reached (ci : Dev nD × CI) : recs T K ⊢ reached ER (kcell ci) 0 := by
  have h : (bigSep Finset.univ fun ci : Dev nD × CI => (reached ER (kcell ci) 0 : sProp 𝕄)) ⊢ reached ER (kcell ci) 0 :=
    bigSep_elim (Finset.mem_univ ci)
  unfold recs
  iintro ⟨-, H, -⟩
  iapply h; iexact H
theorem recs_lev : recs T K ⊢ levAts L lv := by
  unfold recs
  iintro ⟨-, -, H⟩; iexact H

variable {c : Dev nD} {α : Type}

/-- A wait at the device's own cell `i`: it gets the cell's payload, and the cell is over. -/
theorem wait_cell {w : TpuEff nD τ sig (Elt F) Λ₀ .tc PUnit.{1}} {k' : ℕ} (i : CI) {P : CI → Bool}
    (hw : ∀ Kc : PUnit.{1} → sProp 𝕄, wpE (defs₀ (F := F)) 𝒱₀ (c : Thread nD τ) none Set.univ w Kc = waitSpec (c : Thread nD τ) Set.univ (csem i) k' Kc)
    (hk : k' = amt i) (hP : ∀ j, P j = true → clev i < clev j)
    {k : PUnit.{1} → Prog (TpuEff nD τ sig (Elt F) Λ₀ .tc) α} {Q : α → sProp 𝕄} :
    iprop(recs T K ∗ Ow c P ∗ at0 c i ∗ cr c i ∗ ((Ow c P ∗ sv c i ∗ pay T c i) -∗ WP c (k ⟨⟩) Q)) ⊢ WP c (.op w k) Q := by
  subst hk
  iintro ⟨#HR, HO, Hat, Hcr, Hk⟩
  unfold Ow
  icases HO with ⟨%W, HO⟩
  ihave #HI := (recs_inv T K (c, i)) $$ HR
  ihave #HL := (recs_lev T K) $$ HR
  iapply (Rounds.wp_wait_rest_token 𝒱₀ ER (Rd T) (c : Thread nD τ) none (κ := K (c, i)) hw (Set.mem_univ _) () (O := debt c P) (W := W)
    (R := 0) (m := 0) (T := ∅) (by rw [Nat.zero_add, expect_eq])) $$ [Hcr HO Hat]
  · isplitr; · iexact HI
    isplitl [Hcr]; · iexact Hcr
    isplitl [HO]; · iexact HO
    isplitr
    · iapply (mayWait c (csem i) P fun j hj => by rw [lv_kcell c i]; exact hP j hj); iexact HL
    iexact Hat
  iintro ⟨HO, Hat, -, Hpay⟩
  ihave Hp := (Entails.of_eq (rest_eq T c i)) $$ Hpay
  imod (Rounds.cell_close ER (Rd T) (Set.mem_univ (K (c, i))) (fun h => h) (R := 0 + 1) (duties_later T (kcell (c, i)))) $$ [Hat] with Hz
  · isplitr; · iexact HI
    iexact Hat
  iapply Hk
  isplitl [HO]
  · iexists _; iexact HO
  isplitl [Hz] <;> iassumption

/-- A signal of the cell `i` the device pays. -/
theorem signal_cell {dst : Dev nD} {sem : Sem sig} {n : ℕ} (i : CI) {P P' : CI → Bool} (hd : dst = tgt c i) (hs : csem i = .reg sem)
    (hn : n = amt i) (h : P i = true) (h' : P' i = false) (he : ∀ j, j ≠ i → P' j = P j)
    {k : PUnit.{1} → Prog (TpuEff nD τ sig (Elt F) Λ₀ .tc) α} {Q : α → sProp 𝕄} :
    iprop(recs T K ∗ Ow c P ∗ tk c i ∗ pay T (tgt c i) i ∗ (Ow c P' -∗ WP c (k ⟨⟩) Q)) ⊢ WP c (.op (.semSignal (dst : Thread nD τ) sem n) k) Q := by
  subst hd hn
  iintro ⟨#HR, HO, Htk, Hpay, Hk⟩
  unfold Ow
  icases HO with ⟨%W, HO⟩
  ihave #HI := (recs_inv T K (tgt c i, i)) $$ HR
  ihave #Hr := (recs_reached T K (tgt c i, i)) $$ HR
  have e : kcell (tgt c i, i) = ((tgt c i : Thread nD τ), .reg sem) := by show (_, csem i) = _; rw [hs]
  have h1 := duties_mem T (tgt c i) i
  have h2 := amount_eq T (tgt c i) i ()
  have h3 := payload_eq T (tgt c i) i ()
  have h4 := debt_pay (c := c) i h h' he
  rw [e] at h1 h2 h3 h4
  unfold tk
  rw [e]
  iapply (Rounds.wp_signal 𝒱₀ ER (Rd T) (c : Thread nD τ) none (dst := (tgt c i : Thread nD τ)) (κ := K (tgt c i, i)) h1 h2 () (debt c P') h4)
    $$ [HO Htk Hpay]
  · isplitr; · iexact HI
    isplitl [HO]; · iexact HO
    isplitl [Htk]; · iexact Htk
    isplitl [Hpay]; · rw [h3]; iexact Hpay
    iexact Hr
  iintro HO
  iapply Hk
  iexists _; iexact HO

end RsAg
-- ==== Proof.Steps.lean ====
/-
The kernel's operations as steps from one stage of a device to the next.
-/
module

public import proofs.«01_k».proof.Proof.State

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}

/-! ## Stages changed at one place -/

abbrev Stage.setB (d : Stage) (n : ℕ) : Stage := { d with b := n }
abbrev Stage.setJ (d : Stage) (j : Fin 7) (n : ℕ) : Stage := { d with r := Function.update d.r j n }
abbrev Stage.setX (d : Stage) (x : X) (n : ℕ) : Stage := { d with x := Function.update d.x x n }
abbrev Stage.setW (d : Stage) (n : ℕ) : Stage := { d with wb := n }
abbrev Stage.setR (d : Stage) (s : Fin 2) (n : ℕ) : Stage := { d with rd := Function.update d.rd s n }
abbrev Stage.setU (d : Stage) (i : Option (Fin 7)) (n : ℕ) : Stage := { d with ou := Function.update d.ou i n }

theorem setX_self (x : X) : d.setX x (d.x x) = d := by
  simp only [Stage.setX, Function.update_eq_self]
theorem setR_self (s : Fin 2) : d.setR s (d.rd s) = d := by
  simp only [Stage.setR, Function.update_eq_self]
theorem setU_self (i : Option (Fin 7)) : d.setU i (d.ou i) = d := by
  simp only [Stage.setU, Function.update_eq_self]

/-- What is unpaid is told by the barrier's, the ready semaphores' and the steps' stages. -/
theorem pend_congr {d' : Stage} (hb : d'.b = 0 ↔ d.b = 0) (hr : ∀ j, d'.r j = 0 ↔ d.r j = 0) (hx : ∀ x, (d'.x x < 3 ↔ d.x x < 3) ∧ (d'.x x < 7 ↔ d.x x < 7)) :
    pend d' = pend d := by
  funext i
  rcases i with _ | j | ⟨⟨_ | _ | _ | _ | k, hk⟩, x⟩
  · exact decide_eq_decide.mpr hb
  · exact decide_eq_decide.mpr (hr j)
  · rfl
  · exact decide_eq_decide.mpr (hx x).1
  · rfl
  · exact decide_eq_decide.mpr (hx x).2
  · rfl

theorem pend_setX (x : X) (n : ℕ) (h3 : n < 3 ↔ d.x x < 3) (h7 : n < 7 ↔ d.x x < 7) : pend (d.setX x n) = pend d := by
  refine pend_congr Iff.rfl (fun _ => Iff.rfl) fun y => ?_
  by_cases h : y = x
  · subst h; simp only [Function.update_self]; exact ⟨h3, h7⟩
  · simp only [Function.update_of_ne h, and_self]

/-- A step of the exchange taken out, to be put back at any stage. -/
theorem focX (x : X) (n : ℕ) :
    St T Wt K c d ⊢ iprop(recs T K ∗ Ow c (pend d) ∗ PX T c x (d.x x) ∗ ((Ow c (pend (d.setX x n)) ∗ PX T c x n) -∗ St T Wt K c (d.setX x n))) := by
  unfold St
  iintro ⟨#HR, HO, HB, HJ, HX, H⟩
  ihave HX := (bigSep_univ_turn (fun x n => PX T c x n) d.x x) $$ HX
  icases HX with ⟨Hx, HX⟩
  isplitr; · iexact HR
  isplitl [HO]; · iexact HO
  isplitl [Hx]; · iexact Hx
  iintro ⟨HO, Hx⟩
  isplitr; · iexact HR
  isplitl [HO]; · iexact HO
  isplitl [HB]; · iexact HB
  isplitl [HJ]; · iexact HJ
  isplitl [HX Hx]
  · iapply HX; iexact Hx
  iexact H

/-- The same where nothing is paid. -/
theorem focX' (x : X) (n : ℕ) (hp : pend (d.setX x n) = pend d) :
    St T Wt K c d ⊢ iprop(PX T c x (d.x x) ∗ (PX T c x n -∗ St T Wt K c (d.setX x n))) := by
  refine (focX x n).trans ?_
  rw [hp]
  iintro ⟨-, HO, Hx, H⟩
  isplitl [Hx]; · iexact Hx
  iintro Hx
  iapply H
  isplitl [HO] <;> iassumption

theorem getX (x : X) : St T Wt K c d ⊢ iprop(PX T c x (d.x x) ∗ (PX T c x (d.x x) -∗ St T Wt K c d)) := by
  have h := focX' (T := T) (Wt := Wt) (K := K) (c := c) (d := d) x (d.x x) (by rw [setX_self])
  rwa [setX_self] at h

/-- The same for the barrier, -/
theorem focB (n : ℕ) :
    St T Wt K c d ⊢ iprop(recs T K ∗ Ow c (pend d) ∗ PB c d.b ∗ ((Ow c (pend (d.setB n)) ∗ PB c n) -∗ St T Wt K c (d.setB n))) := by
  unfold St
  iintro ⟨#HR, HO, HB, H⟩
  isplitr; · iexact HR
  isplitl [HO]; · iexact HO
  isplitl [HB]; · iexact HB
  iintro ⟨HO, HB⟩
  isplitr; · iexact HR
  isplitl [HO]; · iexact HO
  isplitl [HB]; · iexact HB
  iexact H

/-- a ready semaphore, -/
theorem focJ (j : Fin 7) (n : ℕ) :
    St T Wt K c d ⊢ iprop(recs T K ∗ Ow c (pend d) ∗ PJ c j (d.r j) ∗ ((Ow c (pend (d.setJ j n)) ∗ PJ c j n) -∗ St T Wt K c (d.setJ j n))) := by
  unfold St
  iintro ⟨#HR, HO, HB, HJ, H⟩
  ihave HJ := (bigSep_univ_turn (fun j n => PJ (F := F) c j n) d.r j) $$ HJ
  icases HJ with ⟨Hj, HJ⟩
  isplitr; · iexact HR
  isplitl [HO]; · iexact HO
  isplitl [Hj]; · iexact Hj
  iintro ⟨HO, Hj⟩
  isplitr; · iexact HR
  isplitl [HO]; · iexact HO
  isplitl [HB]; · iexact HB
  isplitl [HJ Hj]
  · iapply HJ; iexact Hj
  iexact H

/-- the operands, -/
theorem getT : St T Wt K c d ⊢ iprop(owns (c : Thread nD τ) tM fullShare (T c) ∗ (owns (c : Thread nD τ) tM fullShare (T c) -∗ St T Wt K c d)) := by
  unfold St
  iintro ⟨HR, HO, HB, HJ, HX, Ht, H⟩
  isplitl [Ht]; · iexact Ht
  iintro Ht
  isplitl [HR]; · iexact HR
  isplitl [HO]; · iexact HO
  isplitl [HB]; · iexact HB
  isplitl [HJ]; · iexact HJ
  isplitl [HX]; · iexact HX
  isplitl [Ht]; · iexact Ht
  iexact H
theorem getW : St T Wt K c d ⊢ iprop(owns (c : Thread nD τ) wP fullShare (Wt c) ∗ (owns (c : Thread nD τ) wP fullShare (Wt c) -∗ St T Wt K c d)) := by
  unfold St
  iintro ⟨HR, HO, HB, HJ, HX, Ht, Hw, H⟩
  isplitl [Hw]; · iexact Hw
  iintro Hw
  isplitl [HR]; · iexact HR
  isplitl [HO]; · iexact HO
  isplitl [HB]; · iexact HB
  isplitl [HJ]; · iexact HJ
  isplitl [HX]; · iexact HX
  isplitl [Ht]; · iexact Ht
  isplitl [Hw]; · iexact Hw
  iexact H

/-- the weights' cast, -/
theorem focW (n : ℕ) : St T Wt K c d ⊢ iprop(PW Wt c d.wb ∗ (PW Wt c n -∗ St T Wt K c (d.setW n))) := by
  unfold St
  iintro ⟨HR, HO, HB, HJ, HX, Ht, Hw, Hb, H⟩
  isplitl [Hb]; · iexact Hb
  iintro Hb
  isplitl [HR]; · iexact HR
  isplitl [HO]; · iexact HO
  isplitl [HB]; · iexact HB
  isplitl [HJ]; · iexact HJ
  isplitl [HX]; · iexact HX
  isplitl [Ht]; · iexact Ht
  isplitl [Hw]; · iexact Hw
  isplitl [Hb]; · iexact Hb
  iexact H

/-- a partial sum, -/
theorem focR (s : Fin 2) (n : ℕ) : St T Wt K c d ⊢ iprop(PR T c s (d.rd s) ∗ (PR T c s n -∗ St T Wt K c (d.setR s n))) := by
  unfold St
  iintro ⟨HR, HO, HB, HJ, HX, Ht, Hw, Hb, Hrd, H⟩
  ihave Hrd := (bigSep_univ_turn (fun s n => PR T c s n) d.rd s) $$ Hrd
  icases Hrd with ⟨Hr, Hrd⟩
  isplitl [Hr]; · iexact Hr
  iintro Hr
  isplitl [HR]; · iexact HR
  isplitl [HO]; · iexact HO
  isplitl [HB]; · iexact HB
  isplitl [HJ]; · iexact HJ
  isplitl [HX]; · iexact HX
  isplitl [Ht]; · iexact Ht
  isplitl [Hw]; · iexact Hw
  isplitl [Hb]; · iexact Hb
  isplitl [Hrd Hr]
  · iapply Hrd; iexact Hr
  iexact H
theorem getR (s : Fin 2) : St T Wt K c d ⊢ iprop(PR T c s (d.rd s) ∗ (PR T c s (d.rd s) -∗ St T Wt K c d)) := by
  have h := focR (T := T) (Wt := Wt) (K := K) (c := c) (d := d) s (d.rd s)
  rwa [setR_self] at h

/-- a block of the result, -/
theorem focU (i : Option (Fin 7)) (n : ℕ) :
    St T Wt K c d ⊢ iprop(PU T Wt c (rel c i) (d.ou i) ∗ (PU T Wt c (rel c i) n -∗ St T Wt K c (d.setU i n))) := by
  unfold St
  iintro ⟨HR, HO, HB, HJ, HX, Ht, Hw, Hb, Hrd, Hac, H⟩
  ihave H := (bigSep_univ_turn (fun i n => PU T Wt c (rel c i) n) d.ou i) $$ H
  icases H with ⟨Hi, H⟩
  isplitl [Hi]; · iexact Hi
  iintro Hi
  isplitl [HR]; · iexact HR
  isplitl [HO]; · iexact HO
  isplitl [HB]; · iexact HB
  isplitl [HJ]; · iexact HJ
  isplitl [HX]; · iexact HX
  isplitl [Ht]; · iexact Ht
  isplitl [Hw]; · iexact Hw
  isplitl [Hb]; · iexact Hb
  isplitl [Hrd]; · iexact Hrd
  isplitl [Hac]; · iexact Hac
  iapply H; iexact Hi
theorem getU (i : Option (Fin 7)) : St T Wt K c d ⊢ iprop(PU T Wt c (rel c i) (d.ou i) ∗ (PU T Wt c (rel c i) (d.ou i) -∗ St T Wt K c d)) := by
  have h := focU (T := T) (Wt := Wt) (K := K) (c := c) (d := d) i (d.ou i)
  rwa [setU_self] at h

/-- and the own pieces, one or both. -/
theorem getO (s : Fin 2) : St T Wt K c d ⊢ iprop(PO T c s (d.ow s) ∗ (PO T c s (d.ow s) -∗ St T Wt K c d)) := by
  unfold St
  iintro ⟨HR, HO, HB, HJ, HX, Ht, Hw, Hb, Hrd, Hac, H⟩
  ihave Hac := (bigSep_focus (Φ := fun s => PO T c s (d.ow s)) (Ψ := fun s => PO T c s (d.ow s)) s (fun _ _ => rfl)) $$ Hac
  icases Hac with ⟨Ha, Hac⟩
  isplitl [Ha]; · iexact Ha
  iintro Ha
  isplitl [HR]; · iexact HR
  isplitl [HO]; · iexact HO
  isplitl [HB]; · iexact HB
  isplitl [HJ]; · iexact HJ
  isplitl [HX]; · iexact HX
  isplitl [Ht]; · iexact Ht
  isplitl [Hw]; · iexact Hw
  isplitl [Hb]; · iexact Hb
  isplitl [Hrd]; · iexact Hrd
  isplitl [Hac Ha]
  · iapply Hac; iexact Ha
  iexact H
theorem getO2 : St T Wt K c d ⊢ iprop((PO T c 0 (d.ow 0) ∗ PO T c 1 (d.ow 1)) ∗ ((PO T c 0 (d.ow 0) ∗ PO T c 1 (d.ow 1)) -∗ St T Wt K c d)) := by
  unfold St
  rw [bigSep_univ_two (fun s => PO T c s (d.ow s))]
  iintro ⟨HR, HO, HB, HJ, HX, Ht, Hw, Hb, Hrd, Hac, H⟩
  isplitl [Hac]; · iexact Hac
  iintro Hac
  isplitl [HR]; · iexact HR
  isplitl [HO]; · iexact HO
  isplitl [HB]; · iexact HB
  isplitl [HJ]; · iexact HJ
  isplitl [HX]; · iexact HX
  isplitl [Ht]; · iexact Ht
  isplitl [Hw]; · iexact Hw
  isplitl [Hb]; · iexact Hb
  isplitl [Hrd]; · iexact Hrd
  isplitl [Hac]; · iexact Hac
  iexact H

end RsAg
-- ==== Proof.Ops.lean ====
/-
The kernel's signals, waits and copies as steps of the stages.
-/
module

public import proofs.«01_k».proof.Proof.Steps

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)} {k : PUnit.{1} → Prog (TpuEff nD τ sig (Elt F) Λ₀ .tc) α}

/-! ## What is unpaid -/

theorem pend_lt1 (hb : d.b ≠ 0) (j : CI) (h : pend d j = true) : 1 < clev j := by
  rcases j with _ | j | ⟨⟨_ | _ | _ | _ | k, hk⟩, x⟩
  · exact absurd (of_decide_eq_true h) hb
  all_goals first | exact (by decide : 1 < 2) | exact (by decide : 1 < 3) | exact (by decide : 1 < 4) | exact absurd h Bool.false_ne_true
theorem pend_lt2 (hb : d.b ≠ 0) (hr : ∀ j, d.r j ≠ 0) (j : CI) (h : pend d j = true) : 2 < clev j := by
  rcases j with _ | j | ⟨⟨_ | _ | _ | _ | k, hk⟩, x⟩
  · exact absurd (of_decide_eq_true h) hb
  · exact absurd (of_decide_eq_true h) (hr j)
  all_goals first | exact (by decide : 2 < 3) | exact (by decide : 2 < 4) | exact absurd h Bool.false_ne_true
theorem pend_lt3 (hb : d.b ≠ 0) (hr : ∀ j, d.r j ≠ 0) (hx : ∀ x, 3 ≤ d.x x) (j : CI) (h : pend d j = true) : 3 < clev j := by
  rcases j with _ | j | ⟨⟨_ | _ | _ | _ | k, hk⟩, x⟩
  · exact absurd (of_decide_eq_true h) hb
  · exact absurd (of_decide_eq_true h) (hr j)
  · exact absurd h Bool.false_ne_true
  · exact absurd (of_decide_eq_true h) (hx x).not_gt
  all_goals first | exact (by decide : 3 < 4) | exact absurd h Bool.false_ne_true
theorem pend_lt4 (hb : d.b ≠ 0) (hr : ∀ j, d.r j ≠ 0) (hx : ∀ x, 7 ≤ d.x x) (j : CI) (h : pend d j = true) : 4 < clev j := by
  rcases j with _ | j | ⟨⟨_ | _ | _ | _ | k, hk⟩, x⟩
  · exact absurd (of_decide_eq_true h) hb
  · exact absurd (of_decide_eq_true h) (hr j)
  · exact absurd h Bool.false_ne_true
  · exact absurd (of_decide_eq_true h) (le_trans (by decide) (hx x)).not_gt
  · exact absurd h Bool.false_ne_true
  · exact absurd (of_decide_eq_true h) (hx x).not_gt
  · exact absurd h Bool.false_ne_true

theorem pend_setB (n : ℕ) (j : CI) (h : j ≠ cB) : pend (d.setB n) j = pend d j := by
  rcases j with _ | j | ⟨⟨_ | _ | _ | _ | k, hk⟩, x⟩ <;> first | rfl | exact absurd rfl h
theorem pend_setJ (i : Fin 7) (n : ℕ) (j : CI) (h : j ≠ cR i) : pend (d.setJ i n) j = pend d j := by
  rcases j with _ | j | ⟨⟨_ | _ | _ | _ | k, hk⟩, x⟩ <;> try rfl
  have hj : j ≠ i := fun e => h (by rw [e])
  simp only [pend, Function.update_of_ne hj]
theorem pend_set3 (x : X) (hx : d.x x = 2) (j : CI) (h : j ≠ cX 1 x) : pend (d.setX x 3) j = pend d j := by
  rcases j with _ | j | ⟨⟨_ | _ | _ | _ | k, hk⟩, y⟩ <;> try rfl
  · have hj : y ≠ x := fun e => h (by rw [e]; rfl)
    simp only [pend, Function.update_of_ne hj]
  · by_cases hj : y = x
    · subst hj; simp only [pend, Function.update_self, hx]; decide
    · simp only [pend, Function.update_of_ne hj]
theorem pend_set7 (x : X) (hx : d.x x = 6) (j : CI) (h : j ≠ cX 3 x) : pend (d.setX x 7) j = pend d j := by
  rcases j with _ | j | ⟨⟨_ | _ | _ | _ | k, hk⟩, y⟩ <;> try rfl
  · by_cases hj : y = x
    · subst hj; simp only [pend, Function.update_self, hx]; decide
    · simp only [pend, Function.update_of_ne hj]
  · have hj : y ≠ x := fun e => h (by rw [e]; rfl)
    simp only [pend, Function.update_of_ne hj]

/-! ## Signals and waits -/

/-- The signal of the barrier. -/
theorem step_barSignal {dst : Dev nD} {sem : Sem sig} {n : ℕ} (hd : dst = c) (hs : barS = sem) (hn : n = 1) (hb : d.b = 0)
    (h : St T Wt K c (d.setB 1) ⊢ WP c (k ⟨⟩) Q) : St T Wt K c d ⊢ WP c (.op (.semSignal (dst : Thread nD τ) sem n) k) Q := by
  refine (focB 1).trans ?_
  rw [hb]
  simp only [PB]
  iintro ⟨#HR, HO, ⟨Htk, Hat, Hcr⟩, Hk⟩
  iapply (signal_cell T K cB (P := pend d) (P' := pend (d.setB 1)) hd (congrArg SemLoc.reg hs) hn (decide_eq_true hb) rfl (pend_setB 1))
  isplitr; · iexact HR
  isplitl [HO]; · iexact HO
  isplitl [Htk]; · iexact Htk
  isplitr
  · rw [show pay T (tgt c cB) cB = iprop(emp) from rfl]; iempintro
  iintro HO
  iapply h
  iapply Hk
  isplitl [HO]; · iexact HO
  isplitl [Hat] <;> iassumption

/-- The wait at the barrier. -/
theorem step_barWait {sem : Sem sig} {n : ℕ} (hs : sem = barS) (hn : n = 1) (hb : d.b = 1)
    (h : St T Wt K c (d.setB 2) ⊢ WP c (k ⟨⟩) Q) : St T Wt K c d ⊢ WP c (.op (.semWait sem n) k) Q := by
  subst hs
  refine (focB 2).trans ?_
  rw [hb, show pend (d.setB 2) = pend d from pend_congr (by show 2 = 0 ↔ d.b = 0; rw [hb]; decide) (fun _ => Iff.rfl) (fun _ => ⟨Iff.rfl, Iff.rfl⟩)]
  simp only [PB]
  iintro ⟨#HR, HO, ⟨Hat, Hcr⟩, Hk⟩
  iapply (wait_cell T K cB (P := pend d) (wpE_semWait_eq 𝒱₀ (c : Thread nD τ) none Set.univ) hn (pend_lt1 (by rw [hb]; decide)))
  isplitr; · iexact HR
  isplitl [HO]; · iexact HO
  isplitl [Hat]; · iexact Hat
  isplitl [Hcr]; · iexact Hcr
  iintro ⟨HO, Hs, -⟩
  iapply h
  iapply Hk
  isplitl [HO] <;> iassumption

/-- The signal of a peer's ready semaphore. -/
theorem step_rdySignal {dst : Dev nD} {sem : Sem sig} {n : ℕ} (j : Fin 7) (hd : dst = xr c j) (hs : rdyS j = sem) (hn : n = 1) (hr : d.r j = 0)
    (h : St T Wt K c (d.setJ j 1) ⊢ WP c (k ⟨⟩) Q) : St T Wt K c d ⊢ WP c (.op (.semSignal (dst : Thread nD τ) sem n) k) Q := by
  refine (focJ j 1).trans ?_
  rw [hr]
  simp only [PJ]
  iintro ⟨#HR, HO, ⟨Htk, Hat, Hcr, H0, H1⟩, Hk⟩
  iapply (signal_cell T K (cR j) (P := pend d) (P' := pend (d.setJ j 1)) hd (congrArg SemLoc.reg hs) hn (decide_eq_true hr)
    (by simp only [pend, Function.update_self]; decide) (pend_setJ j 1))
  isplitr; · iexact HR
  isplitl [HO]; · iexact HO
  isplitl [Htk]; · iexact Htk
  isplitl [H0 H1]
  · rw [show pay T (tgt c (cR j)) (cR j) = iprop((∃ v, owns (xr (xr c j) j : Thread nD τ) (rbP (j, 0)) fullShare v)
      ∗ ∃ v, owns (xr (xr c j) j : Thread nD τ) (rbP (j, 1)) fullShare v) from rfl, xr_xr]
    isplitl [H0] <;> iassumption
  iintro HO
  iapply h
  iapply Hk
  isplitl [HO]; · iexact HO
  isplitl [Hat] <;> iassumption

/-- The wait at a ready semaphore, which hands over the peer's two landing slots. -/
theorem step_rdyWait {sem : Sem sig} {n : ℕ} (j : Fin 7) (hs : sem = rdyS j) (hn : n = 1) (hb : d.b ≠ 0) (hr : ∀ i, d.r i ≠ 0) (hj : d.r j = 1)
    (h0 : d.x (j, 0) = 0) (h1 : d.x (j, 1) = 0)
    (h : St T Wt K c (((d.setJ j 2).setX (j, 0) 1).setX (j, 1) 1) ⊢ WP c (k ⟨⟩) Q) : St T Wt K c d ⊢ WP c (.op (.semWait sem n) k) Q := by
  subst hs
  have hne : ((j, 1) : X) ≠ (j, 0) := fun e => absurd (show (1 : Fin 2) = 0 from congrArg Prod.snd e) (by decide)
  have f0 : iprop((∃ v, owns (xr c j : Thread nD τ) (rbP (j, 0)) fullShare v) ∗ St T Wt K c (d.setJ j 2)) ⊢ St T Wt K c ((d.setJ j 2).setX (j, 0) 1) := by
    iintro ⟨Hs, HS⟩
    ihave HS := (focX' (j, 0) 1 (pend_setX (j, 0) 1 (by show _ ↔ d.x _ < 3; rw [h0]; decide) (by show _ ↔ d.x _ < 7; rw [h0]; decide))) $$ HS
    rw [show (d.setJ j 2).x (j, 0) = 0 from h0]
    simp only [PX]
    icases HS with ⟨⟨H1, H2, H3⟩, Hk⟩
    iapply Hk
    isplitl [H1]; · iexact H1
    isplitl [H2]; · iexact H2
    isplitl [H3] <;> iassumption
  have f1 : iprop((∃ v, owns (xr c j : Thread nD τ) (rbP (j, 1)) fullShare v) ∗ St T Wt K c ((d.setJ j 2).setX (j, 0) 1))
      ⊢ St T Wt K c (((d.setJ j 2).setX (j, 0) 1).setX (j, 1) 1) := by
    have h1' : ((d.setJ j 2).setX (j, 0) 1).x (j, 1) = 0 := by
      show Function.update d.x (j, 0) 1 (j, 1) = 0
      rw [Function.update_of_ne hne, h1]
    iintro ⟨Hs, HS⟩
    ihave HS := (focX' (j, 1) 1 (pend_setX (j, 1) 1 (by rw [h1']; decide) (by rw [h1']; decide))) $$ HS
    rw [h1']
    simp only [PX]
    icases HS with ⟨⟨H1, H2, H3⟩, Hk⟩
    iapply Hk
    isplitl [H1]; · iexact H1
    isplitl [H2]; · iexact H2
    isplitl [H3] <;> iassumption
  have hp : pend (d.setJ j 2) = pend d := by
    refine pend_congr Iff.rfl (fun i => ?_) (fun _ => ⟨Iff.rfl, Iff.rfl⟩)
    by_cases e : i = j
    · subst e; show Function.update d.r i 2 i = 0 ↔ _; rw [Function.update_self, hj]; decide
    · show Function.update d.r j 2 i = 0 ↔ _; rw [Function.update_of_ne e]
  refine (focJ j 2).trans ?_
  rw [hj, hp]
  simp only [PJ]
  iintro ⟨#HR, HO, ⟨Hat, Hcr⟩, Hk⟩
  iapply (wait_cell T K (cR j) (P := pend d) (wpE_semWait_eq 𝒱₀ (c : Thread nD τ) none Set.univ) hn (pend_lt2 hb hr))
  isplitr; · iexact HR
  isplitl [HO]; · iexact HO
  isplitl [Hat]; · iexact Hat
  isplitl [Hcr]; · iexact Hcr
  rw [show pay T c (cR j) = iprop((∃ v, owns (xr c j : Thread nD τ) (rbP (j, 0)) fullShare v) ∗ ∃ v, owns (xr c j : Thread nD τ) (rbP (j, 1)) fullShare v) from rfl]
  iintro ⟨HO, Hs, H0, H1⟩
  iapply h
  iapply f1
  isplitl [H1]; · iexact H1
  iapply f0
  isplitl [H0]; · iexact H0
  iapply Hk
  isplitl [HO] <;> iassumption

section DmaWaits
variable {sp sp' : Space} {s s' : Shape} {e e' : EltTy} {sem : DmaSem sig} {src : Memref sig .tc sp' s' e'} {dst : Memref sig .tc sp s e}
  {hsrc : src.view.WordExact} {hdst : dst.view.WordExact}

/-- The wait for a send of the first phase. -/
theorem step_wait0 (x : X) (hs : sem = dmaS 0 x) (hN : dst.view.dmaCredit = N) (hb : d.b ≠ 0) (hx : d.x x = 3)
    (h : St T Wt K c (d.setX x 4) ⊢ WP c (k ⟨⟩) Q) : St T Wt K c d ⊢ WP c (.op (.waitDma2 sem src dst hsrc hdst) k) Q := by
  subst hs
  refine (focX x 4).trans ?_
  rw [pend_setX x 4 (by rw [hx]; decide) (by rw [hx]; decide), hx]
  simp only [PX]
  iintro ⟨#HR, HO, ⟨Hat, Hcr, Hx⟩, Hk⟩
  iapply (wait_cell T K (cX 0 x) (P := pend d) (wpE_waitDma2_eq 𝒱₀ (c : Thread nD τ) none Set.univ) hN (pend_lt1 hb))
  isplitr; · iexact HR
  isplitl [HO]; · iexact HO
  isplitl [Hat]; · iexact Hat
  isplitl [Hcr]; · iexact Hcr
  iintro ⟨HO, Hs, -⟩
  iapply h
  iapply Hk
  isplitl [HO]; · iexact HO
  isplitl [Hs]; · iexact Hs
  iexact Hx

/-- The wait for a receipt of the first phase: the slot holds the peer's piece. -/
theorem step_wait1 (x : X) (hs : sem = dmaS 1 x) (hN : dst.view.dmaCredit = N) (hb : d.b ≠ 0) (hr : ∀ j, d.r j ≠ 0) (h3 : ∀ y, 3 ≤ d.x y) (hx : d.x x = 4)
    (h : St T Wt K c (d.setX x 5) ⊢ WP c (k ⟨⟩) Q) : St T Wt K c d ⊢ WP c (.op (.waitDma2 sem src dst hsrc hdst) k) Q := by
  subst hs
  refine (focX x 5).trans ?_
  rw [pend_setX x 5 (by rw [hx]; decide) (by rw [hx]; decide), hx]
  simp only [PX]
  iintro ⟨#HR, HO, ⟨H0, Hat, Hcr, Hx⟩, Hk⟩
  iapply (wait_cell T K (cX 1 x) (P := pend d) (wpE_waitDma2_eq 𝒱₀ (c : Thread nD τ) none Set.univ) hN (pend_lt3 hb hr h3))
  isplitr; · iexact HR
  isplitl [HO]; · iexact HO
  isplitl [Hat]; · iexact Hat
  isplitl [Hcr]; · iexact Hcr
  rw [show pay T c (cX 1 x) = iprop(slot1 T c x ∗ ∃ v, owns (xr c x.1 : Thread nD τ) (aP c x.2) fullShare v) from rfl]
  iintro ⟨HO, Hs, Hsl, Hp⟩
  iapply h
  iapply Hk
  isplitl [HO]; · iexact HO
  isplitl [H0]; · iexact H0
  isplitl [Hs]; · iexact Hs
  isplitl [Hsl]; · iexact Hsl
  isplitl [Hx] <;> iassumption

/-- The wait for a send of the second phase: the share sent from comes back. -/
theorem step_wait2 (x : X) (hs : sem = dmaS 2 x) (hN : dst.view.dmaCredit = N) (hb : d.b ≠ 0) (hx : d.x x = 7)
    (h : St T Wt K c (d.setX x 8) ⊢ WP c (k ⟨⟩) Q) : St T Wt K c d ⊢ WP c (.op (.waitDma2 sem src dst hsrc hdst) k) Q := by
  subst hs
  refine (focX x 8).trans ?_
  rw [pend_setX x 8 (by rw [hx]; decide) (by rw [hx]; decide), hx]
  simp only [PX]
  iintro ⟨#HR, HO, ⟨H0, H1, Hsl, Hat, Hcr, Hx⟩, Hk⟩
  iapply (wait_cell T K (cX 2 x) (P := pend d) (wpE_waitDma2_eq 𝒱₀ (c : Thread nD τ) none Set.univ) hN (pend_lt1 hb))
  isplitr; · iexact HR
  isplitl [HO]; · iexact HO
  isplitl [Hat]; · iexact Hat
  isplitl [Hcr]; · iexact Hcr
  rw [show pay T c (cX 2 x) = own1 T c x from rfl]
  iintro ⟨HO, Hs, Hp⟩
  iapply h
  iapply Hk
  isplitl [HO]; · iexact HO
  isplitl [H0]; · iexact H0
  isplitl [H1]; · iexact H1
  isplitl [Hsl]; · iexact Hsl
  isplitl [Hs]; · iexact Hs
  isplitl [Hp] <;> iassumption

/-- The wait for a receipt of the second phase: the peer's reduced piece is there. -/
theorem step_wait3 (x : X) (hs : sem = dmaS 3 x) (hN : dst.view.dmaCredit = N) (hb : d.b ≠ 0) (hr : ∀ j, d.r j ≠ 0) (h7 : ∀ y, 7 ≤ d.x y) (hx : d.x x = 8)
    (h : St T Wt K c (d.setX x 9) ⊢ WP c (k ⟨⟩) Q) : St T Wt K c d ⊢ WP c (.op (.waitDma2 sem src dst hsrc hdst) k) Q := by
  subst hs
  refine (focX x 9).trans ?_
  rw [pend_setX x 9 (by rw [hx]; decide) (by rw [hx]; decide), hx]
  simp only [PX]
  iintro ⟨#HR, HO, ⟨H0, H1, Hsl, H2, Ho, Hat, Hcr⟩, Hk⟩
  iapply (wait_cell T K (cX 3 x) (P := pend d) (wpE_waitDma2_eq 𝒱₀ (c : Thread nD τ) none Set.univ) hN (pend_lt4 hb hr h7))
  isplitr; · iexact HR
  isplitl [HO]; · iexact HO
  isplitl [Hat]; · iexact Hat
  isplitl [Hcr]; · iexact Hcr
  rw [show pay T c (cX 3 x) = owns (c : Thread nD τ) (aP (xr c x.1) x.2) fullShare (accV T (xr c x.1) x.2) from rfl]
  iintro ⟨HO, Hs, Hp⟩
  iapply h
  iapply Hk
  isplitl [HO]; · iexact HO
  isplitl [H0]; · iexact H0
  isplitl [H1]; · iexact H1
  isplitl [Hsl]; · iexact Hsl
  isplitl [H2]; · iexact H2
  isplitl [Ho]; · iexact Ho
  isplitl [Hs] <;> iassumption

end DmaWaits

/-! ## Copies -/

section Copies
variable {n : Dev nD} {src : Memref sig .tc .vmem S64x512 .bf16} {dst : Memref sig (n : Thread nD τ).2.kind .vmem S64x512 .bf16} {sS sem : SemLoc sig}
  {hsc : dst.view.ref.isScScratch = false} {hsrc : src.view.WordExact} {hdst : dst.view.WordExact}
  {hsem : DmaTarget.Typed .vmem sem (.remote (n : Thread nD τ) dst sS hsc)}

/-- A copy to the device whose cell `i₁` it credits, the source going along with it. -/
theorem send_landing (i₀ i₁ : CI) {P P' : CI → Bool} {q : PosShare TreeShare} {V : Vec F S64x512 .bf16} (h₀ : tgt c i₀ = c) (hn : n = tgt c i₁)
    (hsS : sS = csem i₀) (hsm : sem = csem i₁) (hN : dst.view.amount sem = amt i₀) (ha₁ : amt i₁ = amt i₀)
    (h : P i₁ = true) (h' : P' i₁ = false) (he : ∀ j, j ≠ i₁ → P' j = P j)
    (hp₀ : (iprop(emp) : sProp 𝕄) ⊢ pay T c i₀)
    (hp₁ : iprop(owns (n : Thread nD τ) dst fullShare V ∗ owns (c : Thread nD τ) src q V) ⊢ pay T (tgt c i₁) i₁) :
    iprop(recs T K ∗ Ow c P ∗ tk c i₀ ∗ tk c i₁ ∗ owns (c : Thread nD τ) src q V ∗ (∃ v, owns (n : Thread nD τ) dst fullShare v)
      ∗ ((cr c i₀ ∗ Ow c P') -∗ WP c (k ⟨⟩) Q))
      ⊢ WP c (.op (.enqueueDma src (.remote (n : Thread nD τ) dst sS hsc) sem hsrc hdst hsem) k) Q := by
  subst hn hsS hsm
  unfold Ow owns tk
  rw [h₀]
  iintro ⟨#HR, ⟨%W, HO⟩, Ht0, Ht1, ⟨%fs, %hfs, Hsrc⟩, ⟨%v, %fd, -, Hdst⟩, Hk⟩
  ihave #HI0 := (recs_inv T K (c, i₀)) $$ HR
  ihave #HI1 := (recs_inv T K (tgt c i₁, i₁)) $$ HR
  ihave #Hr0 := (recs_reached T K (c, i₀)) $$ HR
  ihave #Hr1 := (recs_reached T K (tgt c i₁, i₁)) $$ HR
  have hpay : iprop((dst.view.loc (tgt c i₁ : Thread nD τ) ↦[dst.view.set]{fullShare} (dst.view.write (Elt F) fd (src.view.read (Elt F) fs) Finset.univ))
      ∗ (src.view.loc (c : Thread nD τ) ↦[src.view.set]{q} fs)) ⊢ (Rd T).payload (kcell (tgt c i₁, i₁)) 0 () := by
    rw [payload_eq]
    refine BIBase.Entails.trans ?_ hp₁
    unfold owns
    iintro ⟨Hd, Hs⟩
    isplitl [Hd]
    · iexists _
      isplitr
      rotate_left
      · iexact Hd
      ipureintro
      rw [hfs]; exact dst.view.read_write_univ fd V
    iexists fs
    isplitr
    · ipureintro; exact hfs
    iexact Hs
  iapply (Rounds.wp_send_landing_pointsTo 𝒱₀ ER (Rd T) (c : Thread nD τ) none (defs := defs₀ (F := F))
    (c' := (tgt c i₁ : Thread nD τ)) (src := src) (dst := dst) (sS := csem i₀) (sem := csem i₁) (hsc := hsc) (hsrc := hsrc) (hdst := hdst) (hsem := hsem) (k := k) (Q := Q) (q := q)
    (κ₁ := K (c, i₀)) (κ₂ := K (tgt c i₁, i₁)) (r₁ := 0) (r₂ := 0) (d₁ := ()) (d₂ := ()) (fs := fs) (fd := fd) (duties_mem T c i₀) (duties_mem T (tgt c i₁) i₁) () () (amt i₀) hN
    (amount_eq T c i₀ ()) ((amount_eq T (tgt c i₁) i₁ ()).trans ha₁) (debt c P') (O₀ := debt c P)
    (ha₁ ▸ debt_pay i₁ h h' he) (W := W) (by rw [payload_eq]; exact hp₀) hpay (Es := Set.univ)) $$ [HO Ht0 Ht1 Hsrc Hdst]
  · isplitr; · iexact HI0
    isplitr; · iexact HI1
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists W; iexact HO

/-- A copy to the device whose cell `i₁` it credits, the source coming back with the cell `i₀`. -/
theorem send_plain (i₀ i₁ : CI) {P P' : CI → Bool} {q : PosShare TreeShare} {V : Vec F S64x512 .bf16} (h₀ : tgt c i₀ = c) (hn : n = tgt c i₁)
    (hsS : sS = csem i₀) (hsm : sem = csem i₁) (hN : dst.view.amount sem = amt i₀) (ha₁ : amt i₁ = amt i₀)
    (h : P i₁ = true) (h' : P' i₁ = false) (he : ∀ j, j ≠ i₁ → P' j = P j)
    (hp₀ : owns (c : Thread nD τ) src q V ⊢ pay T c i₀)
    (hp₁ : owns (n : Thread nD τ) dst fullShare V ⊢ pay T (tgt c i₁) i₁) :
    iprop(recs T K ∗ Ow c P ∗ tk c i₀ ∗ tk c i₁ ∗ owns (c : Thread nD τ) src q V ∗ (∃ v, owns (n : Thread nD τ) dst fullShare v)
      ∗ ((cr c i₀ ∗ Ow c P') -∗ WP c (k ⟨⟩) Q))
      ⊢ WP c (.op (.enqueueDma src (.remote (n : Thread nD τ) dst sS hsc) sem hsrc hdst hsem) k) Q := by
  subst hn hsS hsm
  unfold Ow owns tk
  rw [h₀]
  iintro ⟨#HR, ⟨%W, HO⟩, Ht0, Ht1, ⟨%fs, %hfs, Hsrc⟩, ⟨%v, %fd, -, Hdst⟩, Hk⟩
  ihave #HI0 := (recs_inv T K (c, i₀)) $$ HR
  ihave #HI1 := (recs_inv T K (tgt c i₁, i₁)) $$ HR
  ihave #Hr0 := (recs_reached T K (c, i₀)) $$ HR
  ihave #Hr1 := (recs_reached T K (tgt c i₁, i₁)) $$ HR
  have hpay0 : (src.view.loc (c : Thread nD τ) ↦[src.view.set]{q} fs) ⊢ (Rd T).payload (kcell (c, i₀)) 0 () := by
    rw [payload_eq]
    refine BIBase.Entails.trans ?_ hp₀
    unfold owns
    iintro Hs
    iexists fs
    isplitr
    · ipureintro; exact hfs
    iexact Hs
  have hpay1 : (dst.view.loc (tgt c i₁ : Thread nD τ) ↦[dst.view.set]{fullShare} (dst.view.write (Elt F) fd (src.view.read (Elt F) fs) Finset.univ))
      ⊢ (Rd T).payload (kcell (tgt c i₁, i₁)) 0 () := by
    rw [payload_eq]
    refine BIBase.Entails.trans ?_ hp₁
    unfold owns
    iintro Hd
    iexists _
    isplitr
    rotate_left
    · iexact Hd
    ipureintro
    rw [hfs]; exact dst.view.read_write_univ fd V
  iapply (Rounds.wp_send_pointsTo 𝒱₀ ER (Rd T) (c : Thread nD τ) none (defs := defs₀ (F := F))
    (c' := (tgt c i₁ : Thread nD τ)) (src := src) (dst := dst) (sS := csem i₀) (sem := csem i₁) (hsc := hsc) (hsrc := hsrc) (hdst := hdst) (hsem := hsem) (k := k) (Q := Q) (q := q)
    (κ₁ := K (c, i₀)) (κ₂ := K (tgt c i₁, i₁)) (r₁ := 0) (r₂ := 0) (d₁ := ()) (d₂ := ()) (fs := fs) (fd := fd) (duties_mem T c i₀) (duties_mem T (tgt c i₁) i₁) () () (amt i₀) hN
    (amount_eq T c i₀ ()) ((amount_eq T (tgt c i₁) i₁ ()).trans ha₁) (debt c P') (O₀ := debt c P)
    (ha₁ ▸ debt_pay i₁ h h' he) (W := W) hpay0 hpay1 (Es := Set.univ)) $$ [HO Ht0 Ht1 Hsrc Hdst]
  · isplitr; · iexact HI0
    isplitr; · iexact HI1
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists W; iexact HO

/-- A copy of the first phase: the piece goes to the peer's slot, and its place with it. -/
theorem step_send1 (x : X) (hn : n = xr c x.1) (hs : src = aP (xr c x.1) x.2) (hd : dst = rbQ x) (hsS : sS = .dma (dmaS 0 x)) (hsm : sem = .dma (dmaS 1 x))
    (hx : d.x x = 2) (h : St T Wt K c (d.setX x 3) ⊢ WP c (k ⟨⟩) Q) :
    St T Wt K c d ⊢ WP c (.op (.enqueueDma src (.remote (n : Thread nD τ) dst sS hsc) sem hsrc hdst hsem) k) Q := by
  subst hn hs hd hsS hsm
  have hq : iprop(∃ v, owns (xr c x.1 : Thread nD τ) (rbP x) fullShare v) ⊢ (iprop(∃ v, owns (xr c x.1 : Thread nD τ) (rbQ x) fullShare v) : sProp 𝕄) := by
    iintro ⟨%v, H⟩
    iexists _
    iapply (owns_unsqueeze (c := xr c x.1) (M := rbP x) S64x512 squeezes_S1x64x512_S64x512 v); iexact H
  refine (focX x 3).trans ?_
  rw [hx]
  simp only [PX]
  iintro ⟨#HR, HO, ⟨⟨Ht0, Ht1, Ha0, Ha1, Hc1⟩, H2, Hsrc, Hdst⟩, Hk⟩
  iapply (send_landing (T := T) (K := K) (cX 0 x) (cX 1 x) (P := pend d) (P' := pend (d.setX x 3)) (V := rsV T c (xr c x.1) x.2) (q := fullShare)
    (src := aP (xr c x.1) x.2) (dst := rbQ x) rfl rfl rfl rfl rfl rfl (decide_eq_true (by rw [hx]; decide)) (decide_eq_false (by show ¬ Function.update d.x x _ x < _; rw [Function.update_self]; decide)) (pend_set3 x hx) (BI.Entails.refl _)
    (by
      rw [show pay T (tgt c (cX 1 x)) (cX 1 x) = iprop(owns (xr c x.1 : Thread nD τ) (rbP x) fullShare (slV T (xr (xr c x.1) x.1) (xr c x.1) x.2)
        ∗ ∃ v, owns (xr (xr c x.1) x.1 : Thread nD τ) (aP (xr c x.1) x.2) fullShare v) from rfl, xr_xr]
      iintro ⟨Hd, Hs⟩
      isplitl [Hd]
      · iapply (owns_squeeze (c := xr c x.1) (M := rbP x) S64x512 squeezes_S1x64x512_S64x512 (rsV T c (xr c x.1) x.2)); iexact Hd
      iexists _; iexact Hs))
  isplitr; · iexact HR
  isplitl [HO]; · iexact HO
  isplitl [Ht0]; · iexact Ht0
  isplitl [Ht1]; · iexact Ht1
  isplitl [Hsrc]; · iexact Hsrc
  isplitl [Hdst]; · iapply hq; iexact Hdst
  iintro ⟨Hc0, HO⟩
  iapply h
  iapply Hk
  isplitl [HO]; · iexact HO
  isplitl [Ha0]; · iexact Ha0
  isplitl [Hc0]; · iexact Hc0
  isplitl [Ha1]; · iexact Ha1
  isplitl [Hc1] <;> iassumption

/-- A copy of the second phase: a share of the reduced piece goes to the peer's accumulator. -/
theorem step_send2 (x : X) (hn : n = xr c x.1) (hs : src = aP c x.2) (hd : dst = aP c x.2) (hsS : sS = .dma (dmaS 2 x)) (hsm : sem = .dma (dmaS 3 x))
    (hx : d.x x = 6) (h : St T Wt K c (d.setX x 7) ⊢ WP c (k ⟨⟩) Q) :
    St T Wt K c d ⊢ WP c (.op (.enqueueDma src (.remote (n : Thread nD τ) dst sS hsc) sem hsrc hdst hsem) k) Q := by
  subst hn hs hd hsS hsm
  refine (focX x 7).trans ?_
  rw [hx]
  simp only [PX]
  iintro ⟨#HR, HO, ⟨H0, H1, Hsl, ⟨Ht0, Ht1, Ha0, Ha1, Hc1⟩, Hdst, Hsrc⟩, Hk⟩
  iapply (send_plain (T := T) (K := K) (cX 2 x) (cX 3 x) (P := pend d) (P' := pend (d.setX x 7)) (V := accV T c x.2) (q := qs x.1.castSucc)
    (src := aP c x.2) (dst := aP c x.2) rfl rfl rfl rfl rfl rfl (decide_eq_true (by rw [hx]; decide)) (decide_eq_false (by show ¬ Function.update d.x x _ x < _; rw [Function.update_self]; decide)) (pend_set7 x hx) (BI.Entails.refl _)
    (by
      rw [show pay T (tgt c (cX 3 x)) (cX 3 x) = owns (xr c x.1 : Thread nD τ) (aP (xr (xr c x.1) x.1) x.2) fullShare (accV T (xr (xr c x.1) x.1) x.2) from rfl, xr_xr]
      exact BI.Entails.refl _))
  isplitr; · iexact HR
  isplitl [HO]; · iexact HO
  isplitl [Ht0]; · iexact Ht0
  isplitl [Ht1]; · iexact Ht1
  isplitl [Hsrc]; · iexact Hsrc
  isplitl [Hdst]; · iexact Hdst
  iintro ⟨Hc0, HO⟩
  iapply h
  iapply Hk
  isplitl [HO]; · iexact HO
  isplitl [H0]; · iexact H0
  isplitl [H1]; · iexact H1
  isplitl [Hsl]; · iexact Hsl
  isplitl [Ha0]; · iexact Ha0
  isplitl [Hc0]; · iexact Hc0
  isplitl [Ha1] <;> iassumption

end Copies

end RsAg
-- ==== Proof.Access.lean ====
/-
The kernel's loads and stores as steps of the stages.
-/
module

public import proofs.«01_k».proof.Proof.Steps

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-! ## The operands -/

section Operands
variable {off : Fin 2 → ℕ}

/-- A load of a piece of the operand. -/
theorem step_loadT {inb : ∀ a, off a + S64x512.size a ≤ S1024x512.size a} {hl : tM.view.LoadsAt (Rect.unit (s := S1024x512) off S64x512.size inb).toLoadRect}
    {k : Vec F S64x512 .f32 → Prog (TpuEff nD τ sig (Elt F) Λ₀ .tc) α} (p : Dev nD) (s : Fin 2) (ho : off = roff p s)
    (h : St T Wt K c d ⊢ WP c (k (tP T c p s)) Q) :
    St T Wt K c d ⊢ WP c (.op (.load tM (Rect.unit (s := S1024x512) off S64x512.size inb).toLoadRect hl) k) Q := by
  refine step_load (M := tM) (q := fullShare) (X := tP T c p s) (inb' := roff_inb p s) ho ?_ h
  refine getT.trans ?_
  iintro ⟨Ht, HS⟩
  ihave Ht := (owns_slice (c := c) (M := tM) (rRect p s) (fun _ => rfl) (T c)) $$ Ht
  icases Ht with ⟨Hp, Ht⟩
  isplitl [Hp]; · iexact Hp
  iintro Hp
  iapply HS
  iapply Ht
  iexact Hp

/-- A load of the weights. -/
theorem step_loadW {inb : ∀ a, off a + S512x512.size a ≤ S512x512.size a} {hl : wM.view.LoadsAt (Rect.unit (s := S512x512) off S512x512.size inb).toLoadRect}
    {k : Vec F S512x512 .f32 → Prog (TpuEff nD τ sig (Elt F) Λ₀ .tc) α} (ho : off = ![0, 0])
    (h : St T Wt K c d ⊢ WP c (k (Wt c)) Q) :
    St T Wt K c d ⊢ WP c (.op (.load wM (Rect.unit (s := S512x512) off S512x512.size inb).toLoadRect hl) k) Q :=
  step_load (M := wM) (q := fullShare) (X := Wt c) (inb' := inb_S512x512_S512x512_0_0) ho getW h

end Operands

section Scratch
variable {off : Fin 2 → ℕ}

/-! ## The weights' cast -/

section Wb
variable {inb : ∀ a, off a + S512x512.size a ≤ S512x512.size a} {hl : wbM.view.LoadsAt (Rect.unit (s := S512x512) off S512x512.size inb).toLoadRect}

theorem step_loadWbAny {k : Vec F S512x512 .bf16 → Prog (TpuEff nD τ sig (Elt F) Λ₀ .tc) α} (ho : off = ![0, 0]) (hw : d.wb = 0)
    (h : ∀ v, St T Wt K c d ⊢ WP c (k v) Q) :
    St T Wt K c d ⊢ WP c (.op (.load wbM (Rect.unit (s := S512x512) off S512x512.size inb).toLoadRect hl) k) Q := by
  refine step_load_any (M := wbM) (q := fullShare) (inb' := inb_S512x512_S512x512_0_0) ho ?_ h
  refine (focW 0).trans ?_
  rw [hw, show d.setW 0 = d from by rw [← hw]]
  simp only [PW]
  iintro ⟨⟨%v, H⟩, HS⟩
  iexists v
  isplitl [H]; · iexact H
  iintro H
  iapply HS
  iexists v; iexact H

theorem step_loadWb {k : Vec F S512x512 .bf16 → Prog (TpuEff nD τ sig (Elt F) Λ₀ .tc) α} (ho : off = ![0, 0]) (hw : d.wb = 1)
    (h : St T Wt K c d ⊢ WP c (k (wbV Wt c)) Q) :
    St T Wt K c d ⊢ WP c (.op (.load wbM (Rect.unit (s := S512x512) off S512x512.size inb).toLoadRect hl) k) Q := by
  refine step_load (M := wbM) (q := fullShare) (X := wbV Wt c) (inb' := inb_S512x512_S512x512_0_0) ho ?_ h
  refine (focW 1).trans ?_
  rw [hw, show d.setW 1 = d from by rw [← hw]]
  simp only [PW]
  exact BI.Entails.refl _

theorem step_storeWb {w : Vec F S512x512 .bf16} {hx : (wbM.access (Rect.unit (s := S512x512) off S512x512.size inb)).Stores Finset.univ}
    {hm : (Finset.univ : Finset (Rect.unit (s := S512x512) off S512x512.size inb).shape.Idx) = Finset.univ ∨ ∀ a, (Rect.unit (s := S512x512) off S512x512.size inb).stride a = 1}
    {k : PUnit.{1} → Prog (TpuEff nD τ sig (Elt F) Λ₀ .tc) α} (ho : off = ![0, 0]) (hv : w = wbV Wt c) (hw : d.wb = 0)
    (h : St T Wt K c (d.setW 1) ⊢ WP c (k ⟨⟩) Q) :
    St T Wt K c d ⊢ WP c (.op (.store wbM (Rect.unit (s := S512x512) off S512x512.size inb) w Finset.univ hx hm) k) Q := by
  subst hv
  refine step_store (M := wbM) (inb' := inb_S512x512_S512x512_0_0) ho ?_ h
  refine (focW 1).trans ?_
  rw [hw]
  simp only [PW]
  exact BI.Entails.refl _
end Wb

/-! ## The partial sums -/

section Red
variable {inb : ∀ a, off a + S64x512.size a ≤ S128x512.size a} {hl : rdM.view.LoadsAt (Rect.unit (s := S128x512) off S64x512.size inb).toLoadRect}

theorem step_loadRAny {k : Vec F S64x512 .f32 → Prog (TpuEff nD τ sig (Elt F) Λ₀ .tc) α} (s : Fin 2) (ho : off = hoff s) (hr : d.rd s = 0)
    (h : ∀ v, St T Wt K c d ⊢ WP c (k v) Q) :
    St T Wt K c d ⊢ WP c (.op (.load rdM (Rect.unit (s := S128x512) off S64x512.size inb).toLoadRect hl) k) Q := by
  refine step_load_any (M := rdM) (q := fullShare) (inb' := hoff_inb s) ho ?_ h
  refine (getR s).trans ?_
  rw [hr]
  simp only [PR]
  iintro ⟨⟨%v, H⟩, HS⟩
  iexists v
  isplitl [H]; · iexact H
  iintro H
  iapply HS
  iexists v; iexact H

theorem step_loadR {k : Vec F S64x512 .f32 → Prog (TpuEff nD τ sig (Elt F) Λ₀ .tc) α} (s : Fin 2) (n : ℕ) (ho : off = hoff s) (hr : d.rd s = n + 1)
    (h : St T Wt K c d ⊢ WP c (k (redV T c s n)) Q) :
    St T Wt K c d ⊢ WP c (.op (.load rdM (Rect.unit (s := S128x512) off S64x512.size inb).toLoadRect hl) k) Q := by
  refine step_load (M := rdM) (q := fullShare) (X := redV T c s n) (inb' := hoff_inb s) ho ?_ h
  refine (getR s).trans ?_
  rw [hr]
  simp only [PR]
  exact BI.Entails.refl _

theorem step_storeR {w : Vec F S64x512 .f32} {hx : (rdM.access (Rect.unit (s := S128x512) off S64x512.size inb)).Stores Finset.univ}
    {hm : (Finset.univ : Finset (Rect.unit (s := S128x512) off S64x512.size inb).shape.Idx) = Finset.univ ∨ ∀ a, (Rect.unit (s := S128x512) off S64x512.size inb).stride a = 1}
    {k : PUnit.{1} → Prog (TpuEff nD τ sig (Elt F) Λ₀ .tc) α} (s : Fin 2) (n : ℕ) (ho : off = hoff s) (hv : w = redV T c s n)
    (h : St T Wt K c (d.setR s (n + 1)) ⊢ WP c (k ⟨⟩) Q) :
    St T Wt K c d ⊢ WP c (.op (.store rdM (Rect.unit (s := S128x512) off S64x512.size inb) w Finset.univ hx hm) k) Q := by
  subst hv
  refine step_store (M := rdM) (inb' := hoff_inb s) ho ?_ h
  refine (focR s (n + 1)).trans ?_
  have e : PR T c s (d.rd s) ⊢ (iprop(∃ v, owns (c : Thread nD τ) (rdP s) fullShare v) : sProp 𝕄) := by
    cases d.rd s with
    | zero => exact BI.Entails.refl _
    | succ m => simp only [PR]; iintro H; iexists _; iexact H
  iintro ⟨H, HS⟩
  isplitl [H]; · iapply e; iexact H
  simp only [PR]
  iexact HS
end Red

/-! ## The accumulator's pieces -/

section Acc
variable {inb : ∀ a, off a + S64x512.size a ≤ S1024x512.size a} {hl : aM.view.LoadsAt (Rect.unit (s := S1024x512) off S64x512.size inb).toLoadRect}

/-- A load of a peer's piece, of contents it does not know. -/
theorem step_loadA {k : Vec F S64x512 .bf16 → Prog (TpuEff nD τ sig (Elt F) Λ₀ .tc) α} (x : X) (ho : off = roff (xr c x.1) x.2) (hx : d.x x = 1)
    (h : ∀ v, St T Wt K c d ⊢ WP c (k v) Q) :
    St T Wt K c d ⊢ WP c (.op (.load aM (Rect.unit (s := S1024x512) off S64x512.size inb).toLoadRect hl) k) Q := by
  refine step_load_any (M := aM) (q := fullShare) (inb' := roff_inb (xr c x.1) x.2) ho ?_ h
  refine (getX x).trans ?_
  rw [hx]
  simp only [PX]
  iintro ⟨⟨H1, H2, ⟨%v, H⟩, Hs⟩, HS⟩
  iexists v
  isplitl [H]; · iexact H
  iintro H
  iapply HS
  isplitl [H1]; · iexact H1
  isplitl [H2]; · iexact H2
  isplitl [H]
  · iexists v; iexact H
  iexact Hs

/-- The store of a piece to send. -/
theorem step_storeA {w : Vec F S64x512 .bf16} {hst : (aM.access (Rect.unit (s := S1024x512) off S64x512.size inb)).Stores Finset.univ}
    {hm : (Finset.univ : Finset (Rect.unit (s := S1024x512) off S64x512.size inb).shape.Idx) = Finset.univ ∨ ∀ a, (Rect.unit (s := S1024x512) off S64x512.size inb).stride a = 1}
    {k : PUnit.{1} → Prog (TpuEff nD τ sig (Elt F) Λ₀ .tc) α} (x : X) (ho : off = roff (xr c x.1) x.2) (hv : w = rsV T c (xr c x.1) x.2) (hx : d.x x = 1)
    (h : St T Wt K c (d.setX x 2) ⊢ WP c (k ⟨⟩) Q) :
    St T Wt K c d ⊢ WP c (.op (.store aM (Rect.unit (s := S1024x512) off S64x512.size inb) w Finset.univ hst hm) k) Q := by
  subst hv
  refine step_store (M := aM) (inb' := roff_inb (xr c x.1) x.2) ho ?_ h
  refine (focX' x 2 (pend_setX x 2 (by rw [hx]; decide) (by rw [hx]; decide))).trans ?_
  rw [hx]
  simp only [PX]
  iintro ⟨⟨H1, H2, H, Hs⟩, HS⟩
  isplitl [H]; · iexact H
  iintro H
  iapply HS
  isplitl [H1]; · iexact H1
  isplitl [H2]; · iexact H2
  isplitl [H] <;> iassumption

/-- A load of an own piece, of contents it does not know. -/
theorem step_loadO {k : Vec F S64x512 .bf16 → Prog (TpuEff nD τ sig (Elt F) Λ₀ .tc) α} (s : Fin 2) (ho : off = roff c s) (hx : d.ow s = 0)
    (h : ∀ v, St T Wt K c d ⊢ WP c (k v) Q) :
    St T Wt K c d ⊢ WP c (.op (.load aM (Rect.unit (s := S1024x512) off S64x512.size inb).toLoadRect hl) k) Q := by
  refine step_load_any (M := aM) (q := fullShare) (inb' := roff_inb c s) ho ?_ h
  refine (getO s).trans ?_
  rw [hx]
  simp only [PO]
  iintro ⟨⟨%v, H⟩, HS⟩
  iexists v
  isplitl [H]; · iexact H
  iintro H
  iapply HS
  iexists v; iexact H

/-- An own piece owned is its eight shares owned. -/
theorem deal (s : Fin 2) (V : Vec F S64x512 .bf16) :
    (owns (c : Thread nD τ) (aP c s) fullShare V : sProp 𝕄)
      = iprop(owns (c : Thread nD τ) (aP c s) (qs (Fin.last 7)) V ∗ bigSep Finset.univ fun j : Fin 7 => owns (c : Thread nD τ) (aP c s) (qs j.castSucc) V) := by
  have e : (owns (c : Thread nD τ) (aP c s) fullShare V : sProp 𝕄) = bigSep Finset.univ fun i : Fin 8 => owns (c : Thread nD τ) (aP c s) (qs i) V := by
    rw [owns_eq_rep, Transfers.pointsTo_deal (Finset.univ : Finset (Fin 8)) Finset.univ_nonempty]
    exact bigSep_congr fun i _ => (owns_eq_rep _ _ _ _).symm
  rw [e, bigSep_univ_at _ (Fin.last 7)]
  rw [show (Finset.univ.erase (Fin.last 7) : Finset (Fin 8)) = Finset.univ.map Fin.castSuccEmb from by decide, bigSep_map]
  rfl

/-- The stage with the own piece `s` reduced, a share of it at each step that sends it. -/
def _root_.RsAg.Stage.setO (d : Stage) (s : Fin 2) : Stage :=
  { d with ow := Function.update d.ow s 1, x := fun x => if x.2 = s then 6 else d.x x }

/-- The store of an own piece reduced. -/
theorem step_storeO {w : Vec F S64x512 .bf16} {hst : (aM.access (Rect.unit (s := S1024x512) off S64x512.size inb)).Stores Finset.univ}
    {hm : (Finset.univ : Finset (Rect.unit (s := S1024x512) off S64x512.size inb).shape.Idx) = Finset.univ ∨ ∀ a, (Rect.unit (s := S1024x512) off S64x512.size inb).stride a = 1}
    {k : PUnit.{1} → Prog (TpuEff nD τ sig (Elt F) Λ₀ .tc) α} (s : Fin 2) (ho : off = roff c s) (hv : w = accV T c s) (hx : d.ow s = 0) (h5 : ∀ j, d.x (j, s) = 5)
    (h : St T Wt K c (d.setO s) ⊢ WP c (k ⟨⟩) Q) :
    St T Wt K c d ⊢ WP c (.op (.store aM (Rect.unit (s := S1024x512) off S64x512.size inb) w Finset.univ hst hm) k) Q := by
  subst hv
  refine step_store (M := aM) (inb' := roff_inb c s) ho ?_ h
  have hp : pend (d.setO s) = pend d := by
    refine pend_congr Iff.rfl (fun _ => Iff.rfl) fun ⟨j, s'⟩ => ?_
    show ((if s' = s then 6 else d.x (j, s')) < 3 ↔ _) ∧ ((if s' = s then 6 else d.x (j, s')) < 7 ↔ _)
    by_cases e : s' = s
    · subst e; rw [if_pos rfl, h5]; decide
    · rw [if_neg e]; exact ⟨Iff.rfl, Iff.rfl⟩
  have key : iprop((bigSep Finset.univ fun x => PX T c x (d.x x)) ∗ bigSep Finset.univ fun j : Fin 7 => owns (c : Thread nD τ) (aP c s) (qs j.castSucc) (accV T c s))
      ⊢ bigSep Finset.univ fun x => PX T c x ((d.setO s).x x) := by
    rw [bigSep_univ_prod, bigSep_univ_prod (fun x => PX T c x ((d.setO s).x x)), ← bigSep_sep']
    refine bigSep_mono fun j _ => ?_
    refine (sep_mono_left (bigSep_focus (Ψ := fun s' => PX T c (j, s') ((d.setO s).x (j, s'))) s fun s' hs => by
      rw [show (d.setO s).x (j, s') = d.x (j, s') from if_neg hs])).trans ?_
    rw [show (d.setO s).x (j, s) = 6 from if_pos rfl, h5]
    simp only [PX]
    iintro ⟨⟨⟨H0, H1, Hs, H2, H3⟩, HS⟩, Ho⟩
    iapply HS
    isplitl [H0]; · iexact H0
    isplitl [H1]; · iexact H1
    isplitl [Hs]; · iexact Hs
    isplitl [H2]; · iexact H2
    isplitl [H3] <;> iassumption
  unfold St
  rw [hp]
  iintro ⟨HR, HO, HB, HJ, HX, Ht, Hw, Hb, Hrd, Hac, H⟩
  ihave Hac := (bigSep_focus (Φ := fun s => PO T c s (d.ow s)) (Ψ := fun s' => PO T c s' ((d.setO s).ow s')) s fun s' hs => by
    rw [show (d.setO s).ow s' = d.ow s' from Function.update_of_ne hs _ _]) $$ Hac
  rw [show (d.setO s).ow s = 1 from Function.update_self _ _ _, hx]
  icases Hac with ⟨Ha, Hac⟩
  isplitl [Ha]; · simp only [PO]; iexact Ha
  iintro Ha
  ihave Ha := (Entails.of_eq (deal s (accV T c s))) $$ Ha
  icases Ha with ⟨Ha, Hsh⟩
  isplitl [HR]; · iexact HR
  isplitl [HO]; · iexact HO
  isplitl [HB]; · iexact HB
  isplitl [HJ]; · iexact HJ
  isplitl [HX Hsh]
  · iapply key
    isplitl [HX] <;> iassumption
  isplitl [Ht]; · iexact Ht
  isplitl [Hw]; · iexact Hw
  isplitl [Hb]; · iexact Hb
  isplitl [Hrd]; · iexact Hrd
  isplitl [Hac Ha]
  · iapply Hac; simp only [PO]; iexact Ha
  iexact H
end Acc

/-! ## The blocks -/

section Blk
variable {inb : ∀ a, off a + S128x512.size a ≤ S1024x512.size a}

/-- A load of the own block, reduced. -/
theorem step_loadOwn {hl : aM.view.LoadsAt (Rect.unit (s := S1024x512) off S128x512.size inb).toLoadRect} {k : Vec F S128x512 .bf16 → Prog (TpuEff nD τ sig (Elt F) Λ₀ .tc) α}
    (ho : off = boff c) (h0 : d.ow 0 = 1) (h1 : d.ow 1 = 1)
    (h : St T Wt K c d ⊢ WP c (k (cat (accV T c))) Q) :
    St T Wt K c d ⊢ WP c (.op (.load aM (Rect.unit (s := S1024x512) off S128x512.size inb).toLoadRect hl) k) Q := by
  refine step_load_block (q := qs (Fin.last 7)) (Xs := accV T c) ho ?_ h
  refine getO2.trans ?_
  rw [h0, h1]
  simp only [PO]
  exact BI.Entails.refl _

/-- At the last stage of a step, the peer's reduced piece. -/
theorem px9 (x : X) : PX T c x 9 ⊢ iprop(owns (c : Thread nD τ) (aP (xr c x.1) x.2) fullShare (accV T (xr c x.1) x.2)
    ∗ (owns (c : Thread nD τ) (aP (xr c x.1) x.2) fullShare (accV T (xr c x.1) x.2) -∗ PX T c x 9)) := by
  simp only [PX]
  iintro ⟨H0, H1, Hs, H2, Ho, H3, Ha⟩
  isplitl [Ha]; · iexact Ha
  iintro Ha
  isplitl [H0]; · iexact H0
  isplitl [H1]; · iexact H1
  isplitl [Hs]; · iexact Hs
  isplitl [H2]; · iexact H2
  isplitl [Ho]; · iexact Ho
  isplitl [H3] <;> iassumption

/-- A load of a peer's block, reduced. -/
theorem step_loadBlk {hl : aM.view.LoadsAt (Rect.unit (s := S1024x512) off S128x512.size inb).toLoadRect} {k : Vec F S128x512 .bf16 → Prog (TpuEff nD τ sig (Elt F) Λ₀ .tc) α}
    (j : Fin 7) (ho : off = boff (xr c j)) (h0 : d.x (j, 0) = 9) (h1 : d.x (j, 1) = 9)
    (h : St T Wt K c d ⊢ WP c (k (cat (accV T (xr c j)))) Q) :
    St T Wt K c d ⊢ WP c (.op (.load aM (Rect.unit (s := S1024x512) off S128x512.size inb).toLoadRect hl) k) Q := by
  refine step_load_block (q := fullShare) (Xs := accV T (xr c j)) ho ?_ h
  have e := bigSep_focus (Φ := fun j => bigSep Finset.univ fun s => PX T c (j, s) (d.x (j, s))) (Ψ := fun j => bigSep Finset.univ fun s => PX T c (j, s) (d.x (j, s))) j (fun _ _ => rfl)
  rw [bigSep_univ_two (fun s => PX T c (j, s) (d.x (j, s))), h0, h1] at e
  unfold St
  rw [bigSep_univ_prod (fun x => PX T c x (d.x x))]
  iintro ⟨HR, HO, HB, HJ, HX, Hm⟩
  ihave HX := e $$ HX
  icases HX with ⟨⟨H0, H1⟩, HX⟩
  ihave H0 := (px9 (T := T) (c := c) (j, 0)) $$ H0
  ihave H1 := (px9 (T := T) (c := c) (j, 1)) $$ H1
  icases H0 with ⟨Ha, H0⟩
  icases H1 with ⟨Gb, H1⟩
  isplitl [Ha Gb]
  · isplitl [Ha] <;> iassumption
  iintro ⟨Ha, Gb⟩
  isplitl [HR]; · iexact HR
  isplitl [HO]; · iexact HO
  isplitl [HB]; · iexact HB
  isplitl [HJ]; · iexact HJ
  isplitr [Hm]
  · iapply HX
    isplitl [H0 Ha]
    · iapply H0; iexact Ha
    · iapply H1; iexact Gb
  iexact Hm

/-- A load of a block of the result, of contents it does not know. -/
theorem step_loadU {hl : oM.view.LoadsAt (Rect.unit (s := S1024x512) off S128x512.size inb).toLoadRect} {k : Vec F S128x512 .bf16 → Prog (TpuEff nD τ sig (Elt F) Λ₀ .tc) α}
    (i : Option (Fin 7)) (ho : off = boff (rel c i)) (hu : d.ou i = 0)
    (h : ∀ v, St T Wt K c d ⊢ WP c (k v) Q) :
    St T Wt K c d ⊢ WP c (.op (.load oM (Rect.unit (s := S1024x512) off S128x512.size inb).toLoadRect hl) k) Q := by
  refine step_load_any (M := oM) (q := fullShare) (inb' := boff_inb (rel c i)) ho ?_ h
  refine (getU i).trans ?_
  rw [hu]
  simp only [PU]
  iintro ⟨⟨%v, H⟩, HS⟩
  iexists v
  isplitl [H]; · iexact H
  iintro H
  iapply HS
  iexists v; iexact H

/-- The store of a block of the result. -/
theorem step_storeU {w : Vec F S128x512 .bf16} {hst : (oM.access (Rect.unit (s := S1024x512) off S128x512.size inb)).Stores Finset.univ}
    {hm : (Finset.univ : Finset (Rect.unit (s := S1024x512) off S128x512.size inb).shape.Idx) = Finset.univ ∨ ∀ a, (Rect.unit (s := S1024x512) off S128x512.size inb).stride a = 1}
    {k : PUnit.{1} → Prog (TpuEff nD τ sig (Elt F) Λ₀ .tc) α} (i : Option (Fin 7)) (ho : off = boff (rel c i)) (hv : w = outV T Wt c (rel c i)) (hu : d.ou i = 0)
    (h : St T Wt K c (d.setU i 1) ⊢ WP c (k ⟨⟩) Q) :
    St T Wt K c d ⊢ WP c (.op (.store oM (Rect.unit (s := S1024x512) off S128x512.size inb) w Finset.univ hst hm) k) Q := by
  subst hv
  refine step_store (M := oM) (inb' := boff_inb (rel c i)) ho ?_ h
  refine (focU i 1).trans ?_
  rw [hu]
  simp only [PU]
  exact BI.Entails.refl _
end Blk

/-! ## The landing slots -/

/-- A load of a slot that holds a peer's piece. -/
theorem step_loadS {off : Fin 3 → ℕ} {inb : ∀ a, off a + S1x64x512.size a ≤ S14x64x512.size a} {hl : rbM.view.LoadsAt (Rect.unit (s := S14x64x512) off S1x64x512.size inb).toLoadRect}
    {k : Vec F S1x64x512 .bf16 → Prog (TpuEff nD τ sig (Elt F) Λ₀ .tc) α}
    (x : X) (ho : off = soff x) (hx : d.x x = 5) (h : St T Wt K c d ⊢ WP c (k (slV T (xr c x.1) c x.2)) Q) :
    St T Wt K c d ⊢ WP c (.op (.load rbM (Rect.unit (s := S14x64x512) off S1x64x512.size inb).toLoadRect hl) k) Q := by
  refine step_load (M := rbM) (q := fullShare) (X := slV T (xr c x.1) c x.2) (inb' := soff_inb x) ho ?_ h
  refine (getX x).trans ?_
  rw [hx]
  simp only [PX]
  iintro ⟨⟨H0, H1, Hs, H2, H3⟩, HS⟩
  isplitl [Hs]; · iexact Hs
  iintro Hs
  iapply HS
  isplitl [H0]; · iexact H0
  isplitl [H1]; · iexact H1
  isplitl [Hs]; · iexact Hs
  isplitl [H2] <;> iassumption

end Scratch

end RsAg
-- ==== Proof.Base.lean ====
/-
What the walk along the kernel's text needs: the parts at the kernel's own arguments, and the names its text gives to
devices, memrefs and semaphores.
-/
module

public import proofs.«01_k».proof.Proof.Ops
public import proofs.«01_k».proof.Proof.Access

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- A part of the kernel at the region's buffers and semaphores. -/
abbrev app {β : Type 1} (f : (arg0 : Memref sig .tc .vmem S1024x512 .f32) → arg0.IsWhole → (arg1 : Memref sig .tc .vmem S512x512 .f32) → arg1.IsWhole
    → (arg2 : Memref sig .tc .vmem S1024x512 .bf16) → arg2.IsWhole → (arg3 : Memref sig .tc .vmem S1024x512 .bf16) → arg3.IsWhole
    → (arg4 : Memref sig .tc .vmem S512x512 .bf16) → arg4.IsWhole → (arg5 : Memref sig .tc .vmem S128x512 .f32) → arg5.IsWhole
    → (arg6 : Memref sig .tc .vmem S14x64x512 .bf16) → arg6.IsWhole → Sems sig S7 → DmaSems sig S14 → DmaSems sig S14 → DmaSems sig S14 → DmaSems sig S14 → β) : β :=
  f tM (Memref.isWhole_whole _) wM (Memref.isWhole_whole _) oM (Memref.isWhole_whole _) aM (Memref.isWhole_whole _) wbM (Memref.isWhole_whole _)
    rdM (Memref.isWhole_whole _) rbM (Memref.isWhole_whole _) cc0_scratch4 cc0_scratch5 cc0_scratch6 cc0_scratch7 cc0_scratch8

/-- A device the text computes is a peer, if it is for each device. -/
theorem dev_eq (f : Dev nD → ℕ) (j : Fin 7) (h : ∀ c, f c = (xr c j).val) (c : Dev nD) {hl : f c < nD} : (⟨f c, hl⟩ : Dev nD) = xr c j := Fin.ext (h c)

/-- A piece of the accumulator by the text's offsets, -/
theorem aP_of {p : Dev nD} {s : Fin 2} {off : Fin 2 → ℕ} {inb : ∀ a, off a + S64x512.size a ≤ S1024x512.size a}
    {hr : ∀ a, (Rect.unit (s := S1024x512) off S64x512.size inb).stride a = 1} (ho : off = roff p s) :
    aM.slice (Rect.unit (s := S1024x512) off S64x512.size inb) hr = aP p s := by subst ho; rfl
/-- a landing slot, -/
theorem rbQ_of (x : X) {off : Fin 3 → ℕ} {inb : ∀ a, off a + S1x64x512.size a ≤ S14x64x512.size a}
    {hr : ∀ a, (Rect.unit (s := S14x64x512) off S1x64x512.size inb).stride a = 1} (ho : off = soff x) :
    (rbM.slice (Rect.unit (s := S14x64x512) off S1x64x512.size inb) hr).squeeze S64x512 squeezes_S1x64x512_S64x512 = rbQ x := by subst ho; rfl
/-- a transfer semaphore. -/
theorem sem_of (k : Fin 4) (x : X) {sem : DmaSem sig} (h : sem = dmaS k x) : SemLoc.dma sem = SemLoc.dma (dmaS k x) := congrArg _ h

/-- Before the first part. -/
def D0 : Stage := ⟨0, fun _ => 0, fun _ => 0, 0, fun _ => 0, fun _ => 0, fun _ => 0⟩

end RsAg
-- ==== Proof.Walk1.lean ====
/-
The kernel's parts 1 to 5, walked.
-/
module

public import proofs.«01_k».proof.Proof.Base

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 1. -/
def D1 : Stage := ((((((D0.setB 1).setB 2).setJ 0 1).setJ 1 1).setJ 2 1).setJ 3 1)

/-- The part numbered 1 takes the device from the stage before it to the stage after. -/
theorem part1 {k : (Σ' (d0 : Dev nD) (v2 : BitVec 32) (v3 : BitVec 32), BitVec 32) → Prog (TpuEff nD τ sig (Elt F) Λ₀ .tc) α}
    (h : ∀ w1 w2 w3, St T Wt K c D1 ⊢ WP c (k ⟨c, w1, w2, w3⟩) Q) :
    St T Wt K c D0 ⊢ WP c (app k0_part1 >>= k) Q := by
  unfold app; simp only [k0_part1_eq_skeleton]; unfold k0_part1_skel
  simp only [semSignalHereWord, semSignalWord, semWaitWord, Prog.lift, Prog.bind_op, Prog.bind_ret, Prog.pure_eq_ret, wp_deviceId]
  refine step_barSignal rfl rfl rfl (by decide +kernel) ?_
  refine step_barWait rfl rfl (by decide +kernel) ?_
  refine step_rdySignal 0 (dev_eq k0_dev1 0 (by decide +kernel) c) (by decide +kernel) rfl (by decide +kernel) ?_
  refine step_rdySignal 1 (dev_eq k0_dev2 1 (by decide +kernel) c) (by decide +kernel) rfl (by decide +kernel) ?_
  refine step_rdySignal 2 (dev_eq k0_dev3 2 (by decide +kernel) c) (by decide +kernel) rfl (by decide +kernel) ?_
  refine step_rdySignal 3 (dev_eq k0_dev4 3 (by decide +kernel) c) (by decide +kernel) rfl (by decide +kernel) ?_
  exact h _ _ _

/-- The stage after the part numbered 2. -/
def D2 : Stage := (((((((D1.setJ 4 1).setJ 5 1).setJ 6 1).setJ 0 2).setX (0, 0) 1).setX (0, 1) 1).setX (0, 0) 2)

/-- The part numbered 2 takes the device from the stage before it to the stage after. -/
theorem part2 {k : (Σ' (v40 : BitVec 32) (v53 : BitVec 32), BitVec 32) → Prog (TpuEff nD τ sig (Elt F) Λ₀ .tc) α} {v2 v25 : BitVec 32}
    (h : ∀ w0 w1 w2, St T Wt K c D2 ⊢ WP c (k ⟨w0, w1, w2⟩) Q) :
    St T Wt K c D1 ⊢ WP c (app k0_part2 c v2 v25 >>= k) Q := by
  unfold app; simp only [k0_part2_eq_skeleton]; unfold k0_part2_skel
  simp only [semSignalHereWord, semSignalWord, semWaitWord, Prog.lift, Prog.bind_op, Prog.bind_ret, Prog.pure_eq_ret, wp_deviceId]
  refine step_rdySignal 4 (dev_eq k0_dev5 4 (by decide +kernel) c) (by decide +kernel) rfl (by decide +kernel) ?_
  refine step_rdySignal 5 (dev_eq k0_dev6 5 (by decide +kernel) c) (by decide +kernel) rfl (by decide +kernel) ?_
  refine step_rdySignal 6 (dev_eq k0_dev7 6 (by decide +kernel) c) (by decide +kernel) rfl (by decide +kernel) ?_
  refine step_rdyWait 0 (by decide +kernel) rfl (by decide +kernel) (by decide +kernel) (by decide +kernel) (by decide +kernel) (by decide +kernel) ?_
  refine step_loadT (xr c 0) 0 (off1_eq c 0 0) ?_
  refine step_loadA (0, 0) (off1_eq c 0 0) (by decide +kernel) fun _ => ?_
  refine step_storeA (0, 0) (off1_eq c 0 0) rfl (by decide +kernel) ?_
  exact h _ _ _

/-- The stage after the part numbered 3. -/
def D3 : Stage := ((((((D2.setX (0, 0) 3).setJ 2 2).setX (2, 0) 1).setX (2, 1) 1).setX (2, 0) 2).setX (2, 0) 3)

/-- The part numbered 3 takes the device from the stage before it to the stage after. -/
theorem part3 {k : (Σ' (v62 : BitVec 32), BitVec 32) → Prog (TpuEff nD τ sig (Elt F) Λ₀ .tc) α} {v2 v53 c0_i32_41 : BitVec 32}
    (h : ∀ w0 w1, St T Wt K c D3 ⊢ WP c (k ⟨w0, w1⟩) Q) :
    St T Wt K c D2 ⊢ WP c (app k0_part3 c v2 v53 c0_i32_41 >>= k) Q := by
  unfold app; simp only [k0_part3_eq_skeleton]; unfold k0_part3_skel
  simp only [semSignalHereWord, semSignalWord, semWaitWord, Prog.lift, Prog.bind_op, Prog.bind_ret, Prog.pure_eq_ret, wp_deviceId]
  refine step_send1 (0, 0) (dev_eq k0_dev8 0 (by decide +kernel) c) (aP_of (off2_eq c 0 0)) (rbQ_of (0, 0) (by decide)) (sem_of 0 (0, 0) (by decide +kernel)) (sem_of 1 (0, 0) (by decide +kernel)) (by decide +kernel) ?_
  refine step_rdyWait 2 (by decide +kernel) rfl (by decide +kernel) (by decide +kernel) (by decide +kernel) (by decide +kernel) (by decide +kernel) ?_
  refine step_loadT (xr c 2) 0 (off1_eq c 2 0) ?_
  refine step_loadA (2, 0) (off1_eq c 2 0) (by decide +kernel) fun _ => ?_
  refine step_storeA (2, 0) (off1_eq c 2 0) rfl (by decide +kernel) ?_
  refine step_send1 (2, 0) (dev_eq k0_dev9 2 (by decide +kernel) c) (aP_of (off2_eq c 2 0)) (rbQ_of (2, 0) (by decide)) (sem_of 0 (2, 0) (by decide +kernel)) (sem_of 1 (2, 0) (by decide +kernel)) (by decide +kernel) ?_
  exact h _ _

/-- The stage after the part numbered 4. -/
def D4 : Stage := (((((((((D3.setJ 3 2).setX (3, 0) 1).setX (3, 1) 1).setX (3, 0) 2).setX (3, 0) 3).setJ 1 2).setX (1, 0) 1).setX (1, 1) 1).setX (1, 0) 2)

/-- The part numbered 4 takes the device from the stage before it to the stage after. -/
theorem part4 {k : (BitVec 32) → Prog (TpuEff nD τ sig (Elt F) Λ₀ .tc) α} {v2 v84 : BitVec 32}
    (h : ∀ w0, St T Wt K c D4 ⊢ WP c (k w0) Q) :
    St T Wt K c D3 ⊢ WP c (app k0_part4 c v2 v84 >>= k) Q := by
  unfold app; simp only [k0_part4_eq_skeleton]; unfold k0_part4_skel
  simp only [semSignalHereWord, semSignalWord, semWaitWord, Prog.lift, Prog.bind_op, Prog.bind_ret, Prog.pure_eq_ret, wp_deviceId]
  refine step_rdyWait 3 (by decide +kernel) rfl (by decide +kernel) (by decide +kernel) (by decide +kernel) (by decide +kernel) (by decide +kernel) ?_
  refine step_loadT (xr c 3) 0 (off1_eq c 3 0) ?_
  refine step_loadA (3, 0) (off1_eq c 3 0) (by decide +kernel) fun _ => ?_
  refine step_storeA (3, 0) (off1_eq c 3 0) rfl (by decide +kernel) ?_
  refine step_send1 (3, 0) (dev_eq k0_dev10 3 (by decide +kernel) c) (aP_of (off2_eq c 3 0)) (rbQ_of (3, 0) (by decide)) (sem_of 0 (3, 0) (by decide +kernel)) (sem_of 1 (3, 0) (by decide +kernel)) (by decide +kernel) ?_
  refine step_rdyWait 1 (by decide +kernel) rfl (by decide +kernel) (by decide +kernel) (by decide +kernel) (by decide +kernel) (by decide +kernel) ?_
  refine step_loadT (xr c 1) 0 (off1_eq c 1 0) ?_
  refine step_loadA (1, 0) (off1_eq c 1 0) (by decide +kernel) fun _ => ?_
  refine step_storeA (1, 0) (off1_eq c 1 0) rfl (by decide +kernel) ?_
  exact h _

/-- The stage after the part numbered 5. -/
def D5 : Stage := ((((((D4.setX (1, 0) 3).setJ 4 2).setX (4, 0) 1).setX (4, 1) 1).setX (4, 0) 2).setX (4, 0) 3)

/-- The part numbered 5 takes the device from the stage before it to the stage after. -/
theorem part5 {k : (Σ' (v128 : BitVec 32), BitVec 32) → Prog (TpuEff nD τ sig (Elt F) Λ₀ .tc) α} {v2 v106 : BitVec 32}
    (h : ∀ w0 w1, St T Wt K c D5 ⊢ WP c (k ⟨w0, w1⟩) Q) :
    St T Wt K c D4 ⊢ WP c (app k0_part5 c v2 v106 >>= k) Q := by
  unfold app; simp only [k0_part5_eq_skeleton]; unfold k0_part5_skel
  simp only [semSignalHereWord, semSignalWord, semWaitWord, Prog.lift, Prog.bind_op, Prog.bind_ret, Prog.pure_eq_ret, wp_deviceId]
  refine step_send1 (1, 0) (dev_eq k0_dev11 1 (by decide +kernel) c) (aP_of (off2_eq c 1 0)) (rbQ_of (1, 0) (by decide)) (sem_of 0 (1, 0) (by decide +kernel)) (sem_of 1 (1, 0) (by decide +kernel)) (by decide +kernel) ?_
  refine step_rdyWait 4 (by decide +kernel) rfl (by decide +kernel) (by decide +kernel) (by decide +kernel) (by decide +kernel) (by decide +kernel) ?_
  refine step_loadT (xr c 4) 0 (off1_eq c 4 0) ?_
  refine step_loadA (4, 0) (off1_eq c 4 0) (by decide +kernel) fun _ => ?_
  refine step_storeA (4, 0) (off1_eq c 4 0) rfl (by decide +kernel) ?_
  refine step_send1 (4, 0) (dev_eq k0_dev12 4 (by decide +kernel) c) (aP_of (off2_eq c 4 0)) (rbQ_of (4, 0) (by decide)) (sem_of 0 (4, 0) (by decide +kernel)) (sem_of 1 (4, 0) (by decide +kernel)) (by decide +kernel) ?_
  exact h _ _

end RsAg
-- ==== Proof.Walk2.lean ====
/-
The kernel's parts 6 to 10, walked.
-/
module

public import proofs.«01_k».proof.Proof.Walk1

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 6. -/
def D6 : Stage := (((((((((D5.setJ 6 2).setX (6, 0) 1).setX (6, 1) 1).setX (6, 0) 2).setX (6, 0) 3).setJ 5 2).setX (5, 0) 1).setX (5, 1) 1).setX (5, 0) 2)

/-- The part numbered 6 takes the device from the stage before it to the stage after. -/
theorem part6 {k : (BitVec 32) → Prog (TpuEff nD τ sig (Elt F) Λ₀ .tc) α} {v2 v150 : BitVec 32}
    (h : ∀ w0, St T Wt K c D6 ⊢ WP c (k w0) Q) :
    St T Wt K c D5 ⊢ WP c (app k0_part6 c v2 v150 >>= k) Q := by
  unfold app; simp only [k0_part6_eq_skeleton]; unfold k0_part6_skel
  simp only [semSignalHereWord, semSignalWord, semWaitWord, Prog.lift, Prog.bind_op, Prog.bind_ret, Prog.pure_eq_ret, wp_deviceId]
  refine step_rdyWait 6 (by decide +kernel) rfl (by decide +kernel) (by decide +kernel) (by decide +kernel) (by decide +kernel) (by decide +kernel) ?_
  refine step_loadT (xr c 6) 0 (off1_eq c 6 0) ?_
  refine step_loadA (6, 0) (off1_eq c 6 0) (by decide +kernel) fun _ => ?_
  refine step_storeA (6, 0) (off1_eq c 6 0) rfl (by decide +kernel) ?_
  refine step_send1 (6, 0) (dev_eq k0_dev13 6 (by decide +kernel) c) (aP_of (off2_eq c 6 0)) (rbQ_of (6, 0) (by decide)) (sem_of 0 (6, 0) (by decide +kernel)) (sem_of 1 (6, 0) (by decide +kernel)) (by decide +kernel) ?_
  refine step_rdyWait 5 (by decide +kernel) rfl (by decide +kernel) (by decide +kernel) (by decide +kernel) (by decide +kernel) (by decide +kernel) ?_
  refine step_loadT (xr c 5) 0 (off1_eq c 5 0) ?_
  refine step_loadA (5, 0) (off1_eq c 5 0) (by decide +kernel) fun _ => ?_
  refine step_storeA (5, 0) (off1_eq c 5 0) rfl (by decide +kernel) ?_
  exact h _

/-- The stage after the part numbered 7. -/
def D7 : Stage := (((D6.setX (5, 0) 3).setX (0, 1) 2).setX (0, 1) 3)

/-- The part numbered 7 takes the device from the stage before it to the stage after. -/
theorem part7 {k : (Σ' (v194 : BitVec 32) (v214 : BitVec 32), BitVec 32) → Prog (TpuEff nD τ sig (Elt F) Λ₀ .tc) α} {v2 v172 : BitVec 32}
    (h : ∀ w0 w1 w2, St T Wt K c D7 ⊢ WP c (k ⟨w0, w1, w2⟩) Q) :
    St T Wt K c D6 ⊢ WP c (app k0_part7 c v2 v172 >>= k) Q := by
  unfold app; simp only [k0_part7_eq_skeleton]; unfold k0_part7_skel
  simp only [semSignalHereWord, semSignalWord, semWaitWord, Prog.lift, Prog.bind_op, Prog.bind_ret, Prog.pure_eq_ret, wp_deviceId]
  refine step_send1 (5, 0) (dev_eq k0_dev14 5 (by decide +kernel) c) (aP_of (off2_eq c 5 0)) (rbQ_of (5, 0) (by decide)) (sem_of 0 (5, 0) (by decide +kernel)) (sem_of 1 (5, 0) (by decide +kernel)) (by decide +kernel) ?_
  refine step_loadT (xr c 0) 1 (off1_eq c 0 1) ?_
  refine step_loadA (0, 1) (off1_eq c 0 1) (by decide +kernel) fun _ => ?_
  refine step_storeA (0, 1) (off1_eq c 0 1) rfl (by decide +kernel) ?_
  refine step_send1 (0, 1) (dev_eq k0_dev15 0 (by decide +kernel) c) (aP_of (off2_eq c 0 1)) (rbQ_of (0, 1) (by decide)) (sem_of 0 (0, 1) (by decide +kernel)) (sem_of 1 (0, 1) (by decide +kernel)) (by decide +kernel) ?_
  exact h _ _ _

/-- The stage after the part numbered 8. -/
def D8 : Stage := (((D7.setX (2, 1) 2).setX (2, 1) 3).setX (3, 1) 2)

/-- The part numbered 8 takes the device from the stage before it to the stage after. -/
theorem part8 {k : (BitVec 32) → Prog (TpuEff nD τ sig (Elt F) Λ₀ .tc) α} {v2 v214 v216 : BitVec 32}
    (h : ∀ w0, St T Wt K c D8 ⊢ WP c (k w0) Q) :
    St T Wt K c D7 ⊢ WP c (app k0_part8 c v2 v214 v216 >>= k) Q := by
  unfold app; simp only [k0_part8_eq_skeleton]; unfold k0_part8_skel
  simp only [semSignalHereWord, semSignalWord, semWaitWord, Prog.lift, Prog.bind_op, Prog.bind_ret, Prog.pure_eq_ret, wp_deviceId]
  refine step_loadT (xr c 2) 1 (off1_eq c 2 1) ?_
  refine step_loadA (2, 1) (off1_eq c 2 1) (by decide +kernel) fun _ => ?_
  refine step_storeA (2, 1) (off1_eq c 2 1) rfl (by decide +kernel) ?_
  refine step_send1 (2, 1) (dev_eq k0_dev16 2 (by decide +kernel) c) (aP_of (off2_eq c 2 1)) (rbQ_of (2, 1) (by decide)) (sem_of 0 (2, 1) (by decide +kernel)) (sem_of 1 (2, 1) (by decide +kernel)) (by decide +kernel) ?_
  refine step_loadT (xr c 3) 1 (off1_eq c 3 1) ?_
  refine step_loadA (3, 1) (off1_eq c 3 1) (by decide +kernel) fun _ => ?_
  refine step_storeA (3, 1) (off1_eq c 3 1) rfl (by decide +kernel) ?_
  exact h _

/-- The stage after the part numbered 9. -/
def D9 : Stage := ((((D8.setX (3, 1) 3).setX (1, 1) 2).setX (1, 1) 3).setX (4, 1) 2)

/-- The part numbered 9 takes the device from the stage before it to the stage after. -/
theorem part9 {k : (Σ' (v254 : BitVec 32) (v274 : BitVec 32), BitVec 32) → Prog (TpuEff nD τ sig (Elt F) Λ₀ .tc) α} {v2 : BitVec 32}
    (h : ∀ w0 w1 w2, St T Wt K c D9 ⊢ WP c (k ⟨w0, w1, w2⟩) Q) :
    St T Wt K c D8 ⊢ WP c (app k0_part9 c v2 >>= k) Q := by
  unfold app; simp only [k0_part9_eq_skeleton]; unfold k0_part9_skel
  simp only [semSignalHereWord, semSignalWord, semWaitWord, Prog.lift, Prog.bind_op, Prog.bind_ret, Prog.pure_eq_ret, wp_deviceId]
  refine step_send1 (3, 1) (dev_eq k0_dev17 3 (by decide +kernel) c) (aP_of (off2_eq c 3 1)) (rbQ_of (3, 1) (by decide)) (sem_of 0 (3, 1) (by decide +kernel)) (sem_of 1 (3, 1) (by decide +kernel)) (by decide +kernel) ?_
  refine step_loadT (xr c 1) 1 (off1_eq c 1 1) ?_
  refine step_loadA (1, 1) (off1_eq c 1 1) (by decide +kernel) fun _ => ?_
  refine step_storeA (1, 1) (off1_eq c 1 1) rfl (by decide +kernel) ?_
  refine step_send1 (1, 1) (dev_eq k0_dev18 1 (by decide +kernel) c) (aP_of (off2_eq c 1 1)) (rbQ_of (1, 1) (by decide)) (sem_of 0 (1, 1) (by decide +kernel)) (sem_of 1 (1, 1) (by decide +kernel)) (by decide +kernel) ?_
  refine step_loadT (xr c 4) 1 (off1_eq c 4 1) ?_
  refine step_loadA (4, 1) (off1_eq c 4 1) (by decide +kernel) fun _ => ?_
  refine step_storeA (4, 1) (off1_eq c 4 1) rfl (by decide +kernel) ?_
  exact h _ _ _

/-- The stage after the part numbered 10. -/
def D10 : Stage := (((D9.setX (4, 1) 3).setX (6, 1) 2).setX (6, 1) 3)

/-- The part numbered 10 takes the device from the stage before it to the stage after. -/
theorem part10 {k : (Σ' (v294 : BitVec 32) (v314 : BitVec 32), FVec F S64x512 .bf16) → Prog (TpuEff nD τ sig (Elt F) Λ₀ .tc) α} {v2 v285 : BitVec 32}
    (h : ∀ w0 w1, St T Wt K c D10 ⊢ WP c (k ⟨w0, w1, (k0_pay15 (tP T c (xr c 5) 1))⟩) Q) :
    St T Wt K c D9 ⊢ WP c (app k0_part10 c v2 v285 >>= k) Q := by
  unfold app; simp only [k0_part10_eq_skeleton]; unfold k0_part10_skel
  simp only [semSignalHereWord, semSignalWord, semWaitWord, Prog.lift, Prog.bind_op, Prog.bind_ret, Prog.pure_eq_ret, wp_deviceId]
  refine step_send1 (4, 1) (dev_eq k0_dev19 4 (by decide +kernel) c) (aP_of (off2_eq c 4 1)) (rbQ_of (4, 1) (by decide)) (sem_of 0 (4, 1) (by decide +kernel)) (sem_of 1 (4, 1) (by decide +kernel)) (by decide +kernel) ?_
  refine step_loadT (xr c 6) 1 (off1_eq c 6 1) ?_
  refine step_loadA (6, 1) (off1_eq c 6 1) (by decide +kernel) fun _ => ?_
  refine step_storeA (6, 1) (off1_eq c 6 1) rfl (by decide +kernel) ?_
  refine step_send1 (6, 1) (dev_eq k0_dev20 6 (by decide +kernel) c) (aP_of (off2_eq c 6 1)) (rbQ_of (6, 1) (by decide)) (sem_of 0 (6, 1) (by decide +kernel)) (sem_of 1 (6, 1) (by decide +kernel)) (by decide +kernel) ?_
  refine step_loadT (xr c 5) 1 (off1_eq c 5 1) ?_
  exact h _ _

end RsAg
-- ==== Proof.Walk3.lean ====
/-
The kernel's parts 11 to 14, walked.
-/
module

public import proofs.«01_k».proof.Proof.Walk2

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 11. -/
def D11 : Stage := (((((D10.setX (5, 1) 2).setX (5, 1) 3).setW 1).setR 0 1).setX (0, 0) 4)

/-- The part numbered 11 takes the device from the stage before it to the stage after. -/
theorem part11 {k : (BitVec 32) → Prog (TpuEff nD τ sig (Elt F) Λ₀ .tc) α} {v3 v314 : BitVec 32}
    (h : ∀ w0, St T Wt K c D11 ⊢ WP c (k w0) Q) :
    St T Wt K c D10 ⊢ WP c (app k0_part11 c v3 v314 (k0_pay15 (tP T c (xr c 5) 1)) >>= k) Q := by
  unfold app; simp only [k0_part11_eq_skeleton]; unfold k0_part11_skel
  simp only [semSignalHereWord, semSignalWord, semWaitWord, Prog.lift, Prog.bind_op, Prog.bind_ret, Prog.pure_eq_ret, wp_deviceId]
  refine step_loadA (5, 1) (off1_eq c 5 1) (by decide +kernel) fun _ => ?_
  refine step_storeA (5, 1) (off1_eq c 5 1) rfl (by decide +kernel) ?_
  refine step_send1 (5, 1) (dev_eq k0_dev21 5 (by decide +kernel) c) (aP_of (off2_eq c 5 1)) (rbQ_of (5, 1) (by decide)) (sem_of 0 (5, 1) (by decide +kernel)) (sem_of 1 (5, 1) (by decide +kernel)) (by decide +kernel) ?_
  refine step_loadW rfl ?_
  refine step_loadWbAny rfl (by decide +kernel) fun _ => ?_
  refine step_storeWb rfl rfl (by decide +kernel) ?_
  refine step_loadT c 0 (off3_eq c 0) ?_
  refine step_loadRAny 0 (by decide) (by decide +kernel) fun _ => ?_
  refine step_storeR 0 0 (by decide) rfl ?_
  refine step_wait0 (0, 0) (by decide +kernel) rfl (by decide +kernel) (by decide +kernel) ?_
  exact h _

/-- The stage after the part numbered 12. -/
def D12 : Stage := ((((D11.setX (0, 0) 5).setR 0 2).setX (2, 0) 4).setX (2, 0) 5)

/-- The part numbered 12 takes the device from the stage before it to the stage after. -/
theorem part12 {k : (PUnit.{1}) → Prog (TpuEff nD τ sig (Elt F) Λ₀ .tc) α} {v40 v62 : BitVec 32}
    (h : St T Wt K c D12 ⊢ WP c (k ⟨⟩) Q) :
    St T Wt K c D11 ⊢ WP c (app k0_part12 c v40 v62 >>= k) Q := by
  unfold app; simp only [k0_part12_eq_skeleton]; unfold k0_part12_skel
  simp only [semSignalHereWord, semSignalWord, semWaitWord, Prog.lift, Prog.bind_op, Prog.bind_ret, Prog.pure_eq_ret, wp_deviceId]
  refine step_wait1 (0, 0) (by decide +kernel) rfl (by decide +kernel) (by decide +kernel) (by decide +kernel) (by decide +kernel) ?_
  refine step_loadR 0 0 (by decide) (by decide +kernel) ?_
  refine step_loadS (0, 0) (by decide) (by decide +kernel) ?_
  refine step_loadR 0 0 (by decide) (by decide +kernel) ?_
  refine step_storeR 0 1 (by decide) rfl ?_
  refine step_wait0 (2, 0) (by decide +kernel) rfl (by decide +kernel) (by decide +kernel) ?_
  refine step_wait1 (2, 0) (by decide +kernel) rfl (by decide +kernel) (by decide +kernel) (by decide +kernel) (by decide +kernel) ?_
  exact h

/-- The stage after the part numbered 13. -/
def D13 : Stage := (((D12.setR 0 3).setX (3, 0) 4).setX (3, 0) 5)

/-- The part numbered 13 takes the device from the stage before it to the stage after. -/
theorem part13 {k : (FVec F S64x512 .f32) → Prog (TpuEff nD τ sig (Elt F) Λ₀ .tc) α} {v84 : BitVec 32}
    (h : St T Wt K c D13 ⊢ WP c (k (k0_pay21 (redV T c 0 2) (slV T (xr c 3) c 0))) Q) :
    St T Wt K c D12 ⊢ WP c (app k0_part13 c v84 >>= k) Q := by
  unfold app; simp only [k0_part13_eq_skeleton]; unfold k0_part13_skel
  simp only [semSignalHereWord, semSignalWord, semWaitWord, Prog.lift, Prog.bind_op, Prog.bind_ret, Prog.pure_eq_ret, wp_deviceId]
  refine step_loadR 0 1 (by decide) (by decide +kernel) ?_
  refine step_loadS (2, 0) (by decide) (by decide +kernel) ?_
  refine step_loadR 0 1 (by decide) (by decide +kernel) ?_
  refine step_storeR 0 2 (by decide) rfl ?_
  refine step_wait0 (3, 0) (by decide +kernel) rfl (by decide +kernel) (by decide +kernel) ?_
  refine step_wait1 (3, 0) (by decide +kernel) rfl (by decide +kernel) (by decide +kernel) (by decide +kernel) (by decide +kernel) ?_
  refine step_loadR 0 2 (by decide) (by decide +kernel) ?_
  refine step_loadS (3, 0) (by decide) (by decide +kernel) ?_
  refine step_loadR 0 2 (by decide) (by decide +kernel) ?_
  exact h

/-- The stage after the part numbered 14. -/
def D14 : Stage := (((((D13.setR 0 4).setX (1, 0) 4).setX (1, 0) 5).setR 0 5).setX (4, 0) 4)

/-- The part numbered 14 takes the device from the stage before it to the stage after. -/
theorem part14 {k : (PUnit.{1}) → Prog (TpuEff nD τ sig (Elt F) Λ₀ .tc) α} {v106 : BitVec 32}
    (h : St T Wt K c D14 ⊢ WP c (k ⟨⟩) Q) :
    St T Wt K c D13 ⊢ WP c (app k0_part14 c v106 (k0_pay21 (redV T c 0 2) (slV T (xr c 3) c 0)) >>= k) Q := by
  unfold app; simp only [k0_part14_eq_skeleton]; unfold k0_part14_skel
  simp only [semSignalHereWord, semSignalWord, semWaitWord, Prog.lift, Prog.bind_op, Prog.bind_ret, Prog.pure_eq_ret, wp_deviceId]
  refine step_storeR 0 3 (by decide) rfl ?_
  refine step_wait0 (1, 0) (by decide +kernel) rfl (by decide +kernel) (by decide +kernel) ?_
  refine step_wait1 (1, 0) (by decide +kernel) rfl (by decide +kernel) (by decide +kernel) (by decide +kernel) (by decide +kernel) ?_
  refine step_loadR 0 3 (by decide) (by decide +kernel) ?_
  refine step_loadS (1, 0) (by decide) (by decide +kernel) ?_
  refine step_loadR 0 3 (by decide) (by decide +kernel) ?_
  refine step_storeR 0 4 (by decide) rfl ?_
  refine step_wait0 (4, 0) (by decide +kernel) rfl (by decide +kernel) (by decide +kernel) ?_
  exact h

end RsAg
-- ==== Proof.Walk4.lean ====
/-
The kernel's parts 15 to 18, walked.
-/
module

public import proofs.«01_k».proof.Proof.Walk3

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 15. -/
def D15 : Stage := ((((D14.setX (4, 0) 5).setR 0 6).setX (6, 0) 4).setX (6, 0) 5)

/-- The part numbered 15 takes the device from the stage before it to the stage after. -/
theorem part15 {k : (PUnit.{1}) → Prog (TpuEff nD τ sig (Elt F) Λ₀ .tc) α} {v128 v150 : BitVec 32}
    (h : St T Wt K c D15 ⊢ WP c (k ⟨⟩) Q) :
    St T Wt K c D14 ⊢ WP c (app k0_part15 c v128 v150 >>= k) Q := by
  unfold app; simp only [k0_part15_eq_skeleton]; unfold k0_part15_skel
  simp only [semSignalHereWord, semSignalWord, semWaitWord, Prog.lift, Prog.bind_op, Prog.bind_ret, Prog.pure_eq_ret, wp_deviceId]
  refine step_wait1 (4, 0) (by decide +kernel) rfl (by decide +kernel) (by decide +kernel) (by decide +kernel) (by decide +kernel) ?_
  refine step_loadR 0 4 (by decide) (by decide +kernel) ?_
  refine step_loadS (4, 0) (by decide) (by decide +kernel) ?_
  refine step_loadR 0 4 (by decide) (by decide +kernel) ?_
  refine step_storeR 0 5 (by decide) rfl ?_
  refine step_wait0 (6, 0) (by decide +kernel) rfl (by decide +kernel) (by decide +kernel) ?_
  refine step_wait1 (6, 0) (by decide +kernel) rfl (by decide +kernel) (by decide +kernel) (by decide +kernel) (by decide +kernel) ?_
  exact h

/-- The stage after the part numbered 16. -/
def D16 : Stage := (((D15.setR 0 7).setX (5, 0) 4).setX (5, 0) 5)

/-- The part numbered 16 takes the device from the stage before it to the stage after. -/
theorem part16 {k : (FVec F S64x512 .f32) → Prog (TpuEff nD τ sig (Elt F) Λ₀ .tc) α} {v172 : BitVec 32}
    (h : St T Wt K c D16 ⊢ WP c (k (k0_pay25 (redV T c 0 6) (slV T (xr c 5) c 0))) Q) :
    St T Wt K c D15 ⊢ WP c (app k0_part16 c v172 >>= k) Q := by
  unfold app; simp only [k0_part16_eq_skeleton]; unfold k0_part16_skel
  simp only [semSignalHereWord, semSignalWord, semWaitWord, Prog.lift, Prog.bind_op, Prog.bind_ret, Prog.pure_eq_ret, wp_deviceId]
  refine step_loadR 0 5 (by decide) (by decide +kernel) ?_
  refine step_loadS (6, 0) (by decide) (by decide +kernel) ?_
  refine step_loadR 0 5 (by decide) (by decide +kernel) ?_
  refine step_storeR 0 6 (by decide) rfl ?_
  refine step_wait0 (5, 0) (by decide +kernel) rfl (by decide +kernel) (by decide +kernel) ?_
  refine step_wait1 (5, 0) (by decide +kernel) rfl (by decide +kernel) (by decide +kernel) (by decide +kernel) (by decide +kernel) ?_
  refine step_loadR 0 6 (by decide) (by decide +kernel) ?_
  refine step_loadS (5, 0) (by decide) (by decide +kernel) ?_
  refine step_loadR 0 6 (by decide) (by decide +kernel) ?_
  exact h

/-- The stage after the part numbered 17. -/
def D17 : Stage := ((((D16.setR 0 8).setO 0).setX (0, 0) 7).setX (2, 0) 7)

/-- The part numbered 17 takes the device from the stage before it to the stage after. -/
theorem part17 {k : (Σ' (v493 : BitVec 32) (v502 : BitVec 32), BitVec 32) → Prog (TpuEff nD τ sig (Elt F) Λ₀ .tc) α} {v2 v340 : BitVec 32}
    (h : ∀ w0 w1 w2, St T Wt K c D17 ⊢ WP c (k ⟨w0, w1, w2⟩) Q) :
    St T Wt K c D16 ⊢ WP c (app k0_part17 c v2 v340 (k0_pay25 (redV T c 0 6) (slV T (xr c 5) c 0)) >>= k) Q := by
  unfold app; simp only [k0_part17_eq_skeleton]; unfold k0_part17_skel
  simp only [semSignalHereWord, semSignalWord, semWaitWord, Prog.lift, Prog.bind_op, Prog.bind_ret, Prog.pure_eq_ret, wp_deviceId]
  refine step_storeR 0 7 (by decide) rfl ?_
  refine step_loadR 0 7 (by decide) (by decide +kernel) ?_
  refine step_loadO 0 (off3_eq c 0) (by decide +kernel) fun _ => ?_
  refine step_storeO 0 (off3_eq c 0) rfl (by decide +kernel) (by decide +kernel) ?_
  refine step_send2 (0, 0) (dev_eq k0_dev22 0 (by decide +kernel) c) (aP_of (off4_eq c 0)) (aP_of (off4_eq c 0)) (sem_of 2 (0, 0) (by decide +kernel)) (sem_of 3 (0, 0) (by decide +kernel)) (by decide +kernel) ?_
  refine step_send2 (2, 0) (dev_eq k0_dev23 2 (by decide +kernel) c) (aP_of (off4_eq c 0)) (aP_of (off4_eq c 0)) (sem_of 2 (2, 0) (by decide +kernel)) (sem_of 3 (2, 0) (by decide +kernel)) (by decide +kernel) ?_
  exact h _ _ _

/-- The stage after the part numbered 18. -/
def D18 : Stage := ((((D17.setX (3, 0) 7).setX (1, 0) 7).setX (4, 0) 7).setX (6, 0) 7)

/-- The part numbered 18 takes the device from the stage before it to the stage after. -/
theorem part18 {k : (Σ' (v520 : BitVec 32) (v529 : BitVec 32) (v538 : BitVec 32) (v547 : BitVec 32) (v548 : BitVec 32), BitVec 32) → Prog (TpuEff nD τ sig (Elt F) Λ₀ .tc) α} {v2 : BitVec 32}
    (h : ∀ w0 w1 w2 w3 w4 w5, St T Wt K c D18 ⊢ WP c (k ⟨w0, w1, w2, w3, w4, w5⟩) Q) :
    St T Wt K c D17 ⊢ WP c (app k0_part18 c v2 >>= k) Q := by
  unfold app; simp only [k0_part18_eq_skeleton]; unfold k0_part18_skel
  simp only [semSignalHereWord, semSignalWord, semWaitWord, Prog.lift, Prog.bind_op, Prog.bind_ret, Prog.pure_eq_ret, wp_deviceId]
  refine step_send2 (3, 0) (dev_eq k0_dev24 3 (by decide +kernel) c) (aP_of (off4_eq c 0)) (aP_of (off4_eq c 0)) (sem_of 2 (3, 0) (by decide +kernel)) (sem_of 3 (3, 0) (by decide +kernel)) (by decide +kernel) ?_
  refine step_send2 (1, 0) (dev_eq k0_dev25 1 (by decide +kernel) c) (aP_of (off4_eq c 0)) (aP_of (off4_eq c 0)) (sem_of 2 (1, 0) (by decide +kernel)) (sem_of 3 (1, 0) (by decide +kernel)) (by decide +kernel) ?_
  refine step_send2 (4, 0) (dev_eq k0_dev26 4 (by decide +kernel) c) (aP_of (off4_eq c 0)) (aP_of (off4_eq c 0)) (sem_of 2 (4, 0) (by decide +kernel)) (sem_of 3 (4, 0) (by decide +kernel)) (by decide +kernel) ?_
  refine step_send2 (6, 0) (dev_eq k0_dev27 6 (by decide +kernel) c) (aP_of (off4_eq c 0)) (aP_of (off4_eq c 0)) (sem_of 2 (6, 0) (by decide +kernel)) (sem_of 3 (6, 0) (by decide +kernel)) (by decide +kernel) ?_
  exact h _ _ _ _ _ _

end RsAg
-- ==== Proof.Walk5.lean ====
/-
The kernel's parts 19 to 22, walked.
-/
module

public import proofs.«01_k».proof.Proof.Walk4

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 19. -/
def D19 : Stage := ((((D18.setX (5, 0) 7).setR 1 1).setX (0, 1) 4).setX (0, 1) 5)

/-- The part numbered 19 takes the device from the stage before it to the stage after. -/
theorem part19 {k : (Σ' (v556 : BitVec 32) (v575 : Vec F S64x512 .f32), FVec F S64x512 .f32) → Prog (TpuEff nD τ sig (Elt F) Λ₀ .tc) α} {v3 v194 v548 c0_i32_431 : BitVec 32}
    (h : ∀ w0, St T Wt K c D19 ⊢ WP c (k ⟨w0, (redV T c 1 0), (k0_pay28 (slV T (xr c 0) c 1))⟩) Q) :
    St T Wt K c D18 ⊢ WP c (app k0_part19 c v3 v194 v548 c0_i32_431 >>= k) Q := by
  unfold app; simp only [k0_part19_eq_skeleton]; unfold k0_part19_skel
  simp only [semSignalHereWord, semSignalWord, semWaitWord, Prog.lift, Prog.bind_op, Prog.bind_ret, Prog.pure_eq_ret, wp_deviceId]
  refine step_send2 (5, 0) (dev_eq k0_dev28 5 (by decide +kernel) c) (aP_of (off4_eq c 0)) (aP_of (off4_eq c 0)) (sem_of 2 (5, 0) (by decide +kernel)) (sem_of 3 (5, 0) (by decide +kernel)) (by decide +kernel) ?_
  refine step_loadT c 1 (off3_eq c 1) ?_
  refine step_loadRAny 1 (by decide) (by decide +kernel) fun _ => ?_
  refine step_storeR 1 0 (by decide) rfl ?_
  refine step_wait0 (0, 1) (by decide +kernel) rfl (by decide +kernel) (by decide +kernel) ?_
  refine step_wait1 (0, 1) (by decide +kernel) rfl (by decide +kernel) (by decide +kernel) (by decide +kernel) (by decide +kernel) ?_
  refine step_loadR 1 0 (by decide) (by decide +kernel) ?_
  refine step_loadS (0, 1) (by decide) (by decide +kernel) ?_
  exact h _

/-- The stage after the part numbered 20. -/
def D20 : Stage := ((((D19.setR 1 2).setX (2, 1) 4).setX (2, 1) 5).setR 1 3)

/-- The part numbered 20 takes the device from the stage before it to the stage after. -/
theorem part20 {k : (PUnit.{1}) → Prog (TpuEff nD τ sig (Elt F) Λ₀ .tc) α} {v214 : BitVec 32}
    (h : St T Wt K c D20 ⊢ WP c (k ⟨⟩) Q) :
    St T Wt K c D19 ⊢ WP c (app k0_part20 c v214 (redV T c 1 0) (k0_pay28 (slV T (xr c 0) c 1)) >>= k) Q := by
  unfold app; simp only [k0_part20_eq_skeleton]; unfold k0_part20_skel
  simp only [semSignalHereWord, semSignalWord, semWaitWord, Prog.lift, Prog.bind_op, Prog.bind_ret, Prog.pure_eq_ret, wp_deviceId]
  refine step_loadR 1 0 (by decide) (by decide +kernel) ?_
  refine step_storeR 1 1 (by decide) rfl ?_
  refine step_wait0 (2, 1) (by decide +kernel) rfl (by decide +kernel) (by decide +kernel) ?_
  refine step_wait1 (2, 1) (by decide +kernel) rfl (by decide +kernel) (by decide +kernel) (by decide +kernel) (by decide +kernel) ?_
  refine step_loadR 1 1 (by decide) (by decide +kernel) ?_
  refine step_loadS (2, 1) (by decide) (by decide +kernel) ?_
  refine step_loadR 1 1 (by decide) (by decide +kernel) ?_
  refine step_storeR 1 2 (by decide) rfl ?_
  exact h

/-- The stage after the part numbered 21. -/
def D21 : Stage := ((((D20.setX (3, 1) 4).setX (3, 1) 5).setR 1 4).setX (1, 1) 4)

/-- The part numbered 21 takes the device from the stage before it to the stage after. -/
theorem part21 {k : (PUnit.{1}) → Prog (TpuEff nD τ sig (Elt F) Λ₀ .tc) α} {v234 v254 : BitVec 32}
    (h : St T Wt K c D21 ⊢ WP c (k ⟨⟩) Q) :
    St T Wt K c D20 ⊢ WP c (app k0_part21 c v234 v254 >>= k) Q := by
  unfold app; simp only [k0_part21_eq_skeleton]; unfold k0_part21_skel
  simp only [semSignalHereWord, semSignalWord, semWaitWord, Prog.lift, Prog.bind_op, Prog.bind_ret, Prog.pure_eq_ret, wp_deviceId]
  refine step_wait0 (3, 1) (by decide +kernel) rfl (by decide +kernel) (by decide +kernel) ?_
  refine step_wait1 (3, 1) (by decide +kernel) rfl (by decide +kernel) (by decide +kernel) (by decide +kernel) (by decide +kernel) ?_
  refine step_loadR 1 2 (by decide) (by decide +kernel) ?_
  refine step_loadS (3, 1) (by decide) (by decide +kernel) ?_
  refine step_loadR 1 2 (by decide) (by decide +kernel) ?_
  refine step_storeR 1 3 (by decide) rfl ?_
  refine step_wait0 (1, 1) (by decide +kernel) rfl (by decide +kernel) (by decide +kernel) ?_
  exact h

/-- The stage after the part numbered 22. -/
def D22 : Stage := ((((D21.setX (1, 1) 5).setR 1 5).setX (4, 1) 4).setX (4, 1) 5)

/-- The part numbered 22 takes the device from the stage before it to the stage after. -/
theorem part22 {k : (Σ' (v655 : Vec F S64x512 .f32), FVec F S64x512 .f32) → Prog (TpuEff nD τ sig (Elt F) Λ₀ .tc) α} {v274 : BitVec 32}
    (h : St T Wt K c D22 ⊢ WP c (k ⟨(redV T c 1 4), (k0_pay33 (slV T (xr c 4) c 1))⟩) Q) :
    St T Wt K c D21 ⊢ WP c (app k0_part22 c v274 >>= k) Q := by
  unfold app; simp only [k0_part22_eq_skeleton]; unfold k0_part22_skel
  simp only [semSignalHereWord, semSignalWord, semWaitWord, Prog.lift, Prog.bind_op, Prog.bind_ret, Prog.pure_eq_ret, wp_deviceId]
  refine step_wait1 (1, 1) (by decide +kernel) rfl (by decide +kernel) (by decide +kernel) (by decide +kernel) (by decide +kernel) ?_
  refine step_loadR 1 3 (by decide) (by decide +kernel) ?_
  refine step_loadS (1, 1) (by decide) (by decide +kernel) ?_
  refine step_loadR 1 3 (by decide) (by decide +kernel) ?_
  refine step_storeR 1 4 (by decide) rfl ?_
  refine step_wait0 (4, 1) (by decide +kernel) rfl (by decide +kernel) (by decide +kernel) ?_
  refine step_wait1 (4, 1) (by decide +kernel) rfl (by decide +kernel) (by decide +kernel) (by decide +kernel) (by decide +kernel) ?_
  refine step_loadR 1 4 (by decide) (by decide +kernel) ?_
  refine step_loadS (4, 1) (by decide) (by decide +kernel) ?_
  exact h

end RsAg
-- ==== Proof.Walk6.lean ====
/-
The kernel's parts 23 to 26, walked.
-/
module

public import proofs.«01_k».proof.Proof.Walk5

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 23. -/
def D23 : Stage := ((((D22.setR 1 6).setX (6, 1) 4).setX (6, 1) 5).setR 1 7)

/-- The part numbered 23 takes the device from the stage before it to the stage after. -/
theorem part23 {k : (PUnit.{1}) → Prog (TpuEff nD τ sig (Elt F) Λ₀ .tc) α} {v294 : BitVec 32}
    (h : St T Wt K c D23 ⊢ WP c (k ⟨⟩) Q) :
    St T Wt K c D22 ⊢ WP c (app k0_part23 c v294 (redV T c 1 4) (k0_pay33 (slV T (xr c 4) c 1)) >>= k) Q := by
  unfold app; simp only [k0_part23_eq_skeleton]; unfold k0_part23_skel
  simp only [semSignalHereWord, semSignalWord, semWaitWord, Prog.lift, Prog.bind_op, Prog.bind_ret, Prog.pure_eq_ret, wp_deviceId]
  refine step_loadR 1 4 (by decide) (by decide +kernel) ?_
  refine step_storeR 1 5 (by decide) rfl ?_
  refine step_wait0 (6, 1) (by decide +kernel) rfl (by decide +kernel) (by decide +kernel) ?_
  refine step_wait1 (6, 1) (by decide +kernel) rfl (by decide +kernel) (by decide +kernel) (by decide +kernel) (by decide +kernel) ?_
  refine step_loadR 1 5 (by decide) (by decide +kernel) ?_
  refine step_loadS (6, 1) (by decide) (by decide +kernel) ?_
  refine step_loadR 1 5 (by decide) (by decide +kernel) ?_
  refine step_storeR 1 6 (by decide) rfl ?_
  exact h

/-- The stage after the part numbered 24. -/
def D24 : Stage := ((((D23.setX (5, 1) 4).setX (5, 1) 5).setR 1 8).setO 1)

/-- The part numbered 24 takes the device from the stage before it to the stage after. -/
theorem part24 {k : (BitVec 32) → Prog (TpuEff nD τ sig (Elt F) Λ₀ .tc) α} {v2 v314 v556 : BitVec 32}
    (h : ∀ w0, St T Wt K c D24 ⊢ WP c (k w0) Q) :
    St T Wt K c D23 ⊢ WP c (app k0_part24 c v2 v314 v556 >>= k) Q := by
  unfold app; simp only [k0_part24_eq_skeleton]; unfold k0_part24_skel
  simp only [semSignalHereWord, semSignalWord, semWaitWord, Prog.lift, Prog.bind_op, Prog.bind_ret, Prog.pure_eq_ret, wp_deviceId]
  refine step_wait0 (5, 1) (by decide +kernel) rfl (by decide +kernel) (by decide +kernel) ?_
  refine step_wait1 (5, 1) (by decide +kernel) rfl (by decide +kernel) (by decide +kernel) (by decide +kernel) (by decide +kernel) ?_
  refine step_loadR 1 6 (by decide) (by decide +kernel) ?_
  refine step_loadS (5, 1) (by decide) (by decide +kernel) ?_
  refine step_loadR 1 6 (by decide) (by decide +kernel) ?_
  refine step_storeR 1 7 (by decide) rfl ?_
  refine step_loadR 1 7 (by decide) (by decide +kernel) ?_
  refine step_loadO 1 (off3_eq c 1) (by decide +kernel) fun _ => ?_
  refine step_storeO 1 (off3_eq c 1) rfl (by decide +kernel) (by decide +kernel) ?_
  exact h _

/-- The stage after the part numbered 25. -/
def D25 : Stage := ((((D24.setX (0, 1) 7).setX (2, 1) 7).setX (3, 1) 7).setX (1, 1) 7)

/-- The part numbered 25 takes the device from the stage before it to the stage after. -/
theorem part25 {k : (Σ' (v718 : BitVec 32) (v727 : BitVec 32) (v736 : BitVec 32) (v745 : BitVec 32), BitVec 32) → Prog (TpuEff nD τ sig (Elt F) Λ₀ .tc) α} {v2 : BitVec 32}
    (h : ∀ w0 w1 w2 w3 w4, St T Wt K c D25 ⊢ WP c (k ⟨w0, w1, w2, w3, w4⟩) Q) :
    St T Wt K c D24 ⊢ WP c (app k0_part25 c v2 >>= k) Q := by
  unfold app; simp only [k0_part25_eq_skeleton]; unfold k0_part25_skel
  simp only [semSignalHereWord, semSignalWord, semWaitWord, Prog.lift, Prog.bind_op, Prog.bind_ret, Prog.pure_eq_ret, wp_deviceId]
  refine step_send2 (0, 1) (dev_eq k0_dev29 0 (by decide +kernel) c) (aP_of (off4_eq c 1)) (aP_of (off4_eq c 1)) (sem_of 2 (0, 1) (by decide +kernel)) (sem_of 3 (0, 1) (by decide +kernel)) (by decide +kernel) ?_
  refine step_send2 (2, 1) (dev_eq k0_dev30 2 (by decide +kernel) c) (aP_of (off4_eq c 1)) (aP_of (off4_eq c 1)) (sem_of 2 (2, 1) (by decide +kernel)) (sem_of 3 (2, 1) (by decide +kernel)) (by decide +kernel) ?_
  refine step_send2 (3, 1) (dev_eq k0_dev31 3 (by decide +kernel) c) (aP_of (off4_eq c 1)) (aP_of (off4_eq c 1)) (sem_of 2 (3, 1) (by decide +kernel)) (sem_of 3 (3, 1) (by decide +kernel)) (by decide +kernel) ?_
  refine step_send2 (1, 1) (dev_eq k0_dev32 1 (by decide +kernel) c) (aP_of (off4_eq c 1)) (aP_of (off4_eq c 1)) (sem_of 2 (1, 1) (by decide +kernel)) (sem_of 3 (1, 1) (by decide +kernel)) (by decide +kernel) ?_
  exact h _ _ _ _ _

/-- The stage after the part numbered 26. -/
def D26 : Stage := ((((D25.setX (4, 1) 7).setX (6, 1) 7).setX (5, 1) 7).setU none 1)

/-- The part numbered 26 takes the device from the stage before it to the stage after. -/
theorem part26 {k : (Σ' (v754 : BitVec 32) (v763 : BitVec 32), BitVec 32) → Prog (TpuEff nD τ sig (Elt F) Λ₀ .tc) α} {v2 v3 v745 c1_i32_618 : BitVec 32}
    (h : ∀ w0 w1 w2, St T Wt K c D26 ⊢ WP c (k ⟨w0, w1, w2⟩) Q) :
    St T Wt K c D25 ⊢ WP c (app k0_part26 c v2 v3 v745 c1_i32_618 >>= k) Q := by
  unfold app; simp only [k0_part26_eq_skeleton]; unfold k0_part26_skel
  simp only [semSignalHereWord, semSignalWord, semWaitWord, Prog.lift, Prog.bind_op, Prog.bind_ret, Prog.pure_eq_ret, wp_deviceId]
  refine step_send2 (4, 1) (dev_eq k0_dev33 4 (by decide +kernel) c) (aP_of (off4_eq c 1)) (aP_of (off4_eq c 1)) (sem_of 2 (4, 1) (by decide +kernel)) (sem_of 3 (4, 1) (by decide +kernel)) (by decide +kernel) ?_
  refine step_send2 (6, 1) (dev_eq k0_dev34 6 (by decide +kernel) c) (aP_of (off4_eq c 1)) (aP_of (off4_eq c 1)) (sem_of 2 (6, 1) (by decide +kernel)) (sem_of 3 (6, 1) (by decide +kernel)) (by decide +kernel) ?_
  refine step_send2 (5, 1) (dev_eq k0_dev35 5 (by decide +kernel) c) (aP_of (off4_eq c 1)) (aP_of (off4_eq c 1)) (sem_of 2 (5, 1) (by decide +kernel)) (sem_of 3 (5, 1) (by decide +kernel)) (by decide +kernel) ?_
  refine step_loadOwn (off5_eq c) (by decide +kernel) (by decide +kernel) ?_
  refine step_loadWb rfl (by decide +kernel) ?_
  refine step_loadU none (off5_eq c) (by decide +kernel) fun _ => ?_
  refine step_storeU none (off5_eq c) rfl (by decide +kernel) ?_
  exact h _ _ _

end RsAg
-- ==== Proof.Walk7.lean ====
/-
The kernel's parts 27 to 30, walked.
-/
module

public import proofs.«01_k».proof.Proof.Walk6

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 27. -/
def D27 : Stage := ((((D26.setX (0, 0) 8).setX (0, 0) 9).setX (0, 1) 8).setX (0, 1) 9)

/-- The part numbered 27 takes the device from the stage before it to the stage after. -/
theorem part27 {k : (Σ' (v805 : FVec F S128x512 .bf16), BitVec 32) → Prog (TpuEff nD τ sig (Elt F) Λ₀ .tc) α} {v2 v493 v709 c1_i32_640 : BitVec 32}
    (h : ∀ w1, St T Wt K c D27 ⊢ WP c (k ⟨(k0_pay39 (cat (accV T (xr c 0))) (wbV Wt c)), w1⟩) Q) :
    St T Wt K c D26 ⊢ WP c (app k0_part27 c v2 v493 v709 c1_i32_640 >>= k) Q := by
  unfold app; simp only [k0_part27_eq_skeleton]; unfold k0_part27_skel
  simp only [semSignalHereWord, semSignalWord, semWaitWord, Prog.lift, Prog.bind_op, Prog.bind_ret, Prog.pure_eq_ret, wp_deviceId]
  refine step_wait2 (0, 0) (by decide +kernel) rfl (by decide +kernel) (by decide +kernel) ?_
  refine step_wait3 (0, 0) (by decide +kernel) rfl (by decide +kernel) (by decide +kernel) (by decide +kernel) (by decide +kernel) ?_
  refine step_wait2 (0, 1) (by decide +kernel) rfl (by decide +kernel) (by decide +kernel) ?_
  refine step_wait3 (0, 1) (by decide +kernel) rfl (by decide +kernel) (by decide +kernel) (by decide +kernel) (by decide +kernel) ?_
  refine step_loadBlk 0 (off6_eq c 0) (by decide +kernel) (by decide +kernel) ?_
  refine step_loadWb rfl (by decide +kernel) ?_
  exact h _

/-- The stage after the part numbered 28. -/
def D28 : Stage := (((((D27.setU (some 0) 1).setX (2, 0) 8).setX (2, 0) 9).setX (2, 1) 8).setX (2, 1) 9)

/-- The part numbered 28 takes the device from the stage before it to the stage after. -/
theorem part28 {k : (Σ' (v809 : BitVec 32) (v832 : Vec F S128x512 .bf16), Vec F S512x512 .bf16) → Prog (TpuEff nD τ sig (Elt F) Λ₀ .tc) α} {v2 v502 v718 v806 : BitVec 32}
    (h : ∀ w0, St T Wt K c D28 ⊢ WP c (k ⟨w0, (cat (accV T (xr c 2))), (wbV Wt c)⟩) Q) :
    St T Wt K c D27 ⊢ WP c (app k0_part28 c v2 v502 v718 (k0_pay39 (cat (accV T (xr c 0))) (wbV Wt c)) v806 >>= k) Q := by
  unfold app; simp only [k0_part28_eq_skeleton]; unfold k0_part28_skel
  simp only [semSignalHereWord, semSignalWord, semWaitWord, Prog.lift, Prog.bind_op, Prog.bind_ret, Prog.pure_eq_ret, wp_deviceId]
  refine step_loadU (some 0) (off6_eq c 0) (by decide +kernel) fun _ => ?_
  refine step_storeU (some 0) (off6_eq c 0) rfl (by decide +kernel) ?_
  refine step_wait2 (2, 0) (by decide +kernel) rfl (by decide +kernel) (by decide +kernel) ?_
  refine step_wait3 (2, 0) (by decide +kernel) rfl (by decide +kernel) (by decide +kernel) (by decide +kernel) (by decide +kernel) ?_
  refine step_wait2 (2, 1) (by decide +kernel) rfl (by decide +kernel) (by decide +kernel) ?_
  refine step_wait3 (2, 1) (by decide +kernel) rfl (by decide +kernel) (by decide +kernel) (by decide +kernel) (by decide +kernel) ?_
  refine step_loadBlk 2 (off6_eq c 2) (by decide +kernel) (by decide +kernel) ?_
  refine step_loadWb rfl (by decide +kernel) ?_
  exact h _

/-- The stage after the part numbered 29. -/
def D29 : Stage := (((((D28.setU (some 2) 1).setX (3, 0) 8).setX (3, 0) 9).setX (3, 1) 8).setX (3, 1) 9)

/-- The part numbered 29 takes the device from the stage before it to the stage after. -/
theorem part29 {k : (BitVec 32) → Prog (TpuEff nD τ sig (Elt F) Λ₀ .tc) α} {v2 v511 v727 v809 : BitVec 32}
    (h : ∀ w0, St T Wt K c D29 ⊢ WP c (k w0) Q) :
    St T Wt K c D28 ⊢ WP c (app k0_part29 c v2 v511 v727 v809 (cat (accV T (xr c 2))) (wbV Wt c) >>= k) Q := by
  unfold app; simp only [k0_part29_eq_skeleton]; unfold k0_part29_skel
  simp only [semSignalHereWord, semSignalWord, semWaitWord, Prog.lift, Prog.bind_op, Prog.bind_ret, Prog.pure_eq_ret, wp_deviceId]
  refine step_loadU (some 2) (off6_eq c 2) (by decide +kernel) fun _ => ?_
  refine step_storeU (some 2) (off6_eq c 2) rfl (by decide +kernel) ?_
  refine step_wait2 (3, 0) (by decide +kernel) rfl (by decide +kernel) (by decide +kernel) ?_
  refine step_wait3 (3, 0) (by decide +kernel) rfl (by decide +kernel) (by decide +kernel) (by decide +kernel) (by decide +kernel) ?_
  refine step_wait2 (3, 1) (by decide +kernel) rfl (by decide +kernel) (by decide +kernel) ?_
  refine step_wait3 (3, 1) (by decide +kernel) rfl (by decide +kernel) (by decide +kernel) (by decide +kernel) (by decide +kernel) ?_
  exact h _

/-- The stage after the part numbered 30. -/
def D30 : Stage := ((((D29.setU (some 3) 1).setX (1, 0) 8).setX (1, 0) 9).setX (1, 1) 8)

/-- The part numbered 30 takes the device from the stage before it to the stage after. -/
theorem part30 {k : (BitVec 32) → Prog (TpuEff nD τ sig (Elt F) Λ₀ .tc) α} {v2 v520 v736 v839 : BitVec 32}
    (h : ∀ w0, St T Wt K c D30 ⊢ WP c (k w0) Q) :
    St T Wt K c D29 ⊢ WP c (app k0_part30 c v2 v520 v736 v839 >>= k) Q := by
  unfold app; simp only [k0_part30_eq_skeleton]; unfold k0_part30_skel
  simp only [semSignalHereWord, semSignalWord, semWaitWord, Prog.lift, Prog.bind_op, Prog.bind_ret, Prog.pure_eq_ret, wp_deviceId]
  refine step_loadBlk 3 (off6_eq c 3) (by decide +kernel) (by decide +kernel) ?_
  refine step_loadWb rfl (by decide +kernel) ?_
  refine step_loadU (some 3) (off6_eq c 3) (by decide +kernel) fun _ => ?_
  refine step_storeU (some 3) (off6_eq c 3) rfl (by decide +kernel) ?_
  refine step_wait2 (1, 0) (by decide +kernel) rfl (by decide +kernel) (by decide +kernel) ?_
  refine step_wait3 (1, 0) (by decide +kernel) rfl (by decide +kernel) (by decide +kernel) (by decide +kernel) (by decide +kernel) ?_
  refine step_wait2 (1, 1) (by decide +kernel) rfl (by decide +kernel) (by decide +kernel) ?_
  exact h _

end RsAg
-- ==== Proof.Walk8.lean ====
/-
The kernel's parts 31 to 33, walked.
-/
module

public import proofs.«01_k».proof.Proof.Walk7

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the part numbered 31. -/
def D31 : Stage := (((((D30.setX (1, 1) 9).setU (some 1) 1).setX (4, 0) 8).setX (4, 0) 9).setX (4, 1) 8)

/-- The part numbered 31 takes the device from the stage before it to the stage after. -/
theorem part31 {k : (BitVec 32) → Prog (TpuEff nD τ sig (Elt F) Λ₀ .tc) α} {v2 v529 v745 v869 : BitVec 32}
    (h : ∀ w0, St T Wt K c D31 ⊢ WP c (k w0) Q) :
    St T Wt K c D30 ⊢ WP c (app k0_part31 c v2 v529 v745 v869 >>= k) Q := by
  unfold app; simp only [k0_part31_eq_skeleton]; unfold k0_part31_skel
  simp only [semSignalHereWord, semSignalWord, semWaitWord, Prog.lift, Prog.bind_op, Prog.bind_ret, Prog.pure_eq_ret, wp_deviceId]
  refine step_wait3 (1, 1) (by decide +kernel) rfl (by decide +kernel) (by decide +kernel) (by decide +kernel) (by decide +kernel) ?_
  refine step_loadBlk 1 (off6_eq c 1) (by decide +kernel) (by decide +kernel) ?_
  refine step_loadWb rfl (by decide +kernel) ?_
  refine step_loadU (some 1) (off6_eq c 1) (by decide +kernel) fun _ => ?_
  refine step_storeU (some 1) (off6_eq c 1) rfl (by decide +kernel) ?_
  refine step_wait2 (4, 0) (by decide +kernel) rfl (by decide +kernel) (by decide +kernel) ?_
  refine step_wait3 (4, 0) (by decide +kernel) rfl (by decide +kernel) (by decide +kernel) (by decide +kernel) (by decide +kernel) ?_
  refine step_wait2 (4, 1) (by decide +kernel) rfl (by decide +kernel) (by decide +kernel) ?_
  exact h _

/-- The stage after the part numbered 32. -/
def D32 : Stage := (((((D31.setX (4, 1) 9).setU (some 4) 1).setX (6, 0) 8).setX (6, 0) 9).setX (6, 1) 8)

/-- The part numbered 32 takes the device from the stage before it to the stage after. -/
theorem part32 {k : (BitVec 32) → Prog (TpuEff nD τ sig (Elt F) Λ₀ .tc) α} {v2 v538 v899 : BitVec 32}
    (h : ∀ w0, St T Wt K c D32 ⊢ WP c (k w0) Q) :
    St T Wt K c D31 ⊢ WP c (app k0_part32 c v2 v538 v899 >>= k) Q := by
  unfold app; simp only [k0_part32_eq_skeleton]; unfold k0_part32_skel
  simp only [semSignalHereWord, semSignalWord, semWaitWord, Prog.lift, Prog.bind_op, Prog.bind_ret, Prog.pure_eq_ret, wp_deviceId]
  refine step_wait3 (4, 1) (by decide +kernel) rfl (by decide +kernel) (by decide +kernel) (by decide +kernel) (by decide +kernel) ?_
  refine step_loadBlk 4 (off6_eq c 4) (by decide +kernel) (by decide +kernel) ?_
  refine step_loadWb rfl (by decide +kernel) ?_
  refine step_loadU (some 4) (off6_eq c 4) (by decide +kernel) fun _ => ?_
  refine step_storeU (some 4) (off6_eq c 4) rfl (by decide +kernel) ?_
  refine step_wait2 (6, 0) (by decide +kernel) rfl (by decide +kernel) (by decide +kernel) ?_
  refine step_wait3 (6, 0) (by decide +kernel) rfl (by decide +kernel) (by decide +kernel) (by decide +kernel) (by decide +kernel) ?_
  refine step_wait2 (6, 1) (by decide +kernel) rfl (by decide +kernel) (by decide +kernel) ?_
  exact h _

/-- The stage after the part numbered 33. -/
def D33 : Stage := ((((D32.setX (6, 1) 9).setU (some 6) 1).setX (5, 0) 8).setX (5, 0) 9)

/-- The part numbered 33 takes the device from the stage before it to the stage after. -/
theorem part33 {k : (BitVec 32) → Prog (TpuEff nD τ sig (Elt F) Λ₀ .tc) α} {v2 v547 v754 v929 : BitVec 32}
    (h : ∀ w0, St T Wt K c D33 ⊢ WP c (k w0) Q) :
    St T Wt K c D32 ⊢ WP c (app k0_part33 c v2 v547 v754 v929 >>= k) Q := by
  unfold app; simp only [k0_part33_eq_skeleton]; unfold k0_part33_skel
  simp only [semSignalHereWord, semSignalWord, semWaitWord, Prog.lift, Prog.bind_op, Prog.bind_ret, Prog.pure_eq_ret, wp_deviceId]
  refine step_wait3 (6, 1) (by decide +kernel) rfl (by decide +kernel) (by decide +kernel) (by decide +kernel) (by decide +kernel) ?_
  refine step_loadBlk 6 (off6_eq c 6) (by decide +kernel) (by decide +kernel) ?_
  refine step_loadWb rfl (by decide +kernel) ?_
  refine step_loadU (some 6) (off6_eq c 6) (by decide +kernel) fun _ => ?_
  refine step_storeU (some 6) (off6_eq c 6) rfl (by decide +kernel) ?_
  refine step_wait2 (5, 0) (by decide +kernel) rfl (by decide +kernel) (by decide +kernel) ?_
  refine step_wait3 (5, 0) (by decide +kernel) rfl (by decide +kernel) (by decide +kernel) (by decide +kernel) (by decide +kernel) ?_
  exact h _

end RsAg
-- ==== Proof.Whole.lean ====
/-
The kernel's body, walked from its first part to its last operation.
-/
module

public import proofs.«01_k».proof.Proof.Walk8

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {T : Dev nD → Vec F S1024x512 .f32} {Wt : Dev nD → Vec F S512x512 .f32} {K : Dev nD × CI → ℕ}
variable {c : Dev nD} {α : Type} {d : Stage}
  {Q : α → sProp (MT nD τ sig Unit (Elt F) ℕ UU ℕ)}

/-- The stage after the last part. -/
def D34 : Stage := (D33.setX (5, 1) 8).setX (5, 1) 9
/-- The stage at the end. -/
def D35 : Stage := D34.setU (some 5) 1

/-- The last part, which runs all the others, takes the device from the beginning to the stage before the last operation. -/
theorem part34 {k : (Σ' (d0 : Dev nD) (v959 : BitVec 32), FVec F S128x512 .f32) → Prog (TpuEff nD τ sig (Elt F) Λ₀ .tc) α}
    (h : ∀ w, St T Wt K c D34 ⊢ WP c (k ⟨c, w, k0_pay45 (cat (accV T (xr c 5))) (wbV Wt c)⟩) Q) :
    St T Wt K c D0 ⊢ WP c (app k0_part34 >>= k) Q := by
  unfold app; simp only [k0_part34_eq_skeleton]; unfold k0_part34_skel
  simp only [Prog.lift, bind_assoc]
  refine part1 ?_
  intro _ _ _
  refine part2 ?_
  intro _ _ _
  refine part3 ?_
  intro _ _
  refine part4 ?_
  intro _
  refine part5 ?_
  intro _ _
  refine part6 ?_
  intro _
  refine part7 ?_
  intro _ _ _
  refine part8 ?_
  intro _
  refine part9 ?_
  intro _ _ _
  refine part10 ?_
  intro _ _
  refine part11 ?_
  intro _
  refine part12 ?_
  refine part13 ?_
  refine part14 ?_
  refine part15 ?_
  refine part16 ?_
  refine part17 ?_
  intro _ _ _
  refine part18 ?_
  intro _ _ _ _ _ _
  refine part19 ?_
  intro _
  refine part20 ?_
  refine part21 ?_
  refine part22 ?_
  refine part23 ?_
  refine part24 ?_
  intro _
  refine part25 ?_
  intro _ _ _ _ _
  refine part26 ?_
  intro _ _ _
  refine part27 ?_
  intro _
  refine part28 ?_
  intro _
  refine part29 ?_
  intro _
  refine part30 ?_
  intro _
  refine part31 ?_
  intro _
  refine part32 ?_
  intro _
  refine part33 ?_
  intro _
  simp only [Prog.bind_op, Prog.bind_ret, Prog.pure_eq_ret]
  refine step_wait2 (5, 1) (by decide +kernel) rfl (by decide +kernel) (by decide +kernel) ?_
  refine step_wait3 (5, 1) (by decide +kernel) rfl (by decide +kernel) (by decide +kernel) (by decide +kernel) (by decide +kernel) ?_
  refine step_loadBlk 5 (off6_eq c 5) (by decide +kernel) (by decide +kernel) ?_
  refine step_loadWb rfl (by decide +kernel) ?_
  exact h _

/-- The kernel's body takes the device from the beginning to the end. -/
theorem body {Q : PUnit.{1} → sProp (MT nD τ sig Unit (Elt F) ℕ UU ℕ)} (h : St T Wt K c D35 ⊢ Q ⟨⟩) :
    St T Wt K c D0 ⊢ WP c (app cc0_body) Q := by
  unfold app; simp only [cc0_body_eq_skeleton]; unfold cc0_body_skel
  refine part34 fun _ => ?_
  simp only [Prog.lift, Prog.bind_op, Prog.bind_ret, Prog.pure_eq_ret]
  refine step_loadU (some 5) (off6_eq c 5) (by decide +kernel) fun _ => ?_
  refine step_storeU (some 5) (off6_eq c 5) rfl (by decide +kernel) ?_
  unfold WP
  rw [wp_ret]
  exact h.trans fupd_intro

end RsAg
-- ==== Proof.Ends.lean ====
/-
The two ends of the body: the buffers and the ghost state the launch gives are the first stage, and from the last
stage come the result, the buffers and the semaphores at zero.
-/
module

public import proofs.«01_k».proof.Proof.Whole

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → Vec F S1024x512 .f32) (Wt : Dev nD → Vec F S512x512 .f32) (K : Dev nD × CI → ℕ) (c : Dev nD)

/-! ## Separating conjunctions, reindexed -/

omit [FloatOps F] in
/-- Over an option: the absent one, and the others. -/
theorem bigSep_option (Φ : Option (Fin 7) → sProp 𝕄) : bigSep Finset.univ Φ = iprop(Φ none ∗ bigSep Finset.univ fun j => Φ (some j)) := by
  rw [bigSep_univ_equiv (Equiv.optionEquivSumPUnit.{0, 0} (Fin 7)).symm Φ, bigSep_univ_sum, bigSep_univ_of_subsingleton PUnit.unit]
  exact equiv_iff.mp ⟨Idealize.SL.BI.sep_comm, Idealize.SL.BI.sep_comm⟩

omit [FloatOps F] in
/-- Two conjunctions, zipped. -/
theorem bigSep_zip {I : Type} {S : Finset I} {A B C : I → sProp 𝕄} (h : ∀ i, iprop(A i ∗ B i) ⊢ C i) :
    iprop(bigSep S A ∗ bigSep S B) ⊢ bigSep S C := by
  rw [← bigSep_sep']; exact bigSep_mono fun i _ => h i

/-- The devices as seen from device `c`: itself, and its peers. -/
def relE : Option (Fin 7) ≃ Dev nD :=
  Equiv.ofBijective (rel c) ⟨by
    intro i i' h
    rcases i with _ | j <;> rcases i' with _ | j'
    · rfl
    · exact absurd h.symm (xr_ne c j')
    · exact absurd h (xr_ne c j)
    · exact congrArg some (xr_inj c h), fun d => by
      by_cases h : d = c
      · exact ⟨none, h.symm⟩
      · obtain ⟨j, hj⟩ := xr_surj c d h; exact ⟨some j, hj⟩⟩

omit [FloatOps F] in
/-- Over the pieces: the device's own two, and those of its peers. -/
theorem bigSep_pieces (Φ : Dev nD → Fin 2 → sProp 𝕄) :
    (bigSep Finset.univ fun t : Pc => Φ t.1 t.2) = iprop((bigSep Finset.univ fun s => Φ c s) ∗ bigSep Finset.univ fun x : X => Φ (xr c x.1) x.2) := by
  rw [bigSep_univ_prod, bigSep_univ_equiv (relE c), bigSep_option, bigSep_univ_prod]; rfl

omit [FloatOps F] in
/-- Over the cells. -/
theorem bigSep_cells (Φ : CI → sProp 𝕄) :
    bigSep Finset.univ Φ = iprop(Φ cB ∗ (bigSep Finset.univ fun j => Φ (cR j))
      ∗ bigSep Finset.univ fun x => iprop(Φ (cX 0 x) ∗ Φ (cX 1 x) ∗ Φ (cX 2 x) ∗ Φ (cX 3 x))) := by
  rw [bigSep_univ_sum, bigSep_univ_of_subsingleton (), bigSep_univ_sum, bigSep_univ_prod, bigSep_univ_comm]
  rw [bigSep_congr (s := Finset.univ) fun (x : X) _ => bigSep_univ_eq_bigSepL [(0 : Fin 4), 1, 2, 3] (by decide) (by decide) fun k => Φ (.inr (.inr (k, x)))]
  rfl

/-! ## Buffers in parts -/

/-- A memref owned whole at some contents. -/
def anyOf {sp : Space} {s : Shape} {e : EltTy} (M : Memref sig .tc sp s e) : sProp 𝕄 := iprop(∃ v, owns (c : Thread nD τ) M fullShare v)

omit [FloatOps F] in
theorem any_of {sp : Space} {s : Shape} {e : EltTy} (M : Memref sig .tc sp s e) (v : s.Idx → Elt F e) :
    (owns (c : Thread nD τ) M fullShare v : sProp 𝕄) ⊢ anyOf c M := by
  unfold anyOf
  iintro H; iexists v; iexact H

section Parts
variable {sp : Space} {s : Shape} {e : EltTy} (M : Memref sig .tc sp s e) {I : Type} [Fintype I] [DecidableEq I] (r : I → Rect s)
  (hr : ∀ t a, (r t).stride a = 1) (hd : ∀ t t', t ≠ t' → Disjoint (r t).set (r t').set) (hcov : Finset.univ.biUnion (fun t => (r t).set) = Finset.univ)

include hd hcov in
/-- A memref owned at some contents is its parts so owned. -/
theorem any_split : (anyOf c M : sProp 𝕄) ⊢ bigSep Finset.univ fun t => anyOf c (M.slice (r t) (hr t)) := by
  unfold anyOf
  iintro ⟨%v, H⟩
  iapply ((owns_rects (c : Thread nD τ) M fullShare r hr hd hcov v).trans (bigSep_mono fun t _ => exists_intro (Φ := fun w => owns (c : Thread nD τ) (M.slice (r t) (hr t)) fullShare w) _))
  iexact H

include hd hcov in
/-- And the parts owned are the memref owned, at the contents glued. -/
theorem owns_glue (Xs : ∀ t, (r t).shape.Idx → Elt F e) :
    (bigSep Finset.univ fun t => owns (c : Thread nD τ) (M.slice (r t) (hr t)) fullShare (Xs t) : sProp 𝕄)
      ⊢ owns (c : Thread nD τ) M fullShare (Rect.glue r hcov Xs) := by
  refine BIBase.Entails.trans (Entails.of_eq ?_) (owns_of_rects (c : Thread nD τ) M fullShare r hr hd hcov (Rect.glue r hcov Xs))
  refine bigSep_congr fun t _ => ?_
  congr 1
  funext y
  exact (Rect.glue_emb r hcov hd Xs t y).symm

include hd hcov in
theorem any_join : (bigSep Finset.univ fun t => anyOf c (M.slice (r t) (hr t))) ⊢ (anyOf c M : sProp 𝕄) := by
  unfold anyOf
  iintro H
  ihave HX := (BI.bigSep_exists_pi Finset.univ (fun (t : I) (v : (r t).shape.Idx → Elt F e) => (owns (c : Thread nD τ) (M.slice (r t) (hr t)) fullShare v : sProp 𝕄))) $$ H
  icases HX with ⟨%Xs, H⟩
  iexists (Rect.glue r hcov Xs)
  iapply (owns_glue c M r hr hd hcov Xs); iexact H
end Parts

omit [FloatOps F] in
/-- A buffer at some contents. -/
theorem any_whole (b : Ref sig .tc) :
    (iprop(∃ f : Buf (Elt F) ((c : Thread nD τ).loc b), ((c : Thread nD τ).loc b) ↦{fullShare} f) : sProp 𝕄) = anyOf c (Memref.whole b) := by
  unfold anyOf
  congr 1
  funext f
  exact (owns_whole (c : Thread nD τ) b fullShare f).symm

/-- The accumulator in its pieces. -/
theorem acc_split : (anyOf c aM : sProp 𝕄) ⊢ iprop((bigSep Finset.univ fun s => anyOf c (aP c s)) ∗ bigSep Finset.univ fun x : X => anyOf c (aP (xr c x.1) x.2)) := by
  rw [← bigSep_pieces c (fun p s => anyOf c (aP p s))]
  exact any_split c aM (fun t : Pc => rRect t.1 t.2) (fun _ _ => rfl) rRect_disj rRect_cov
theorem acc_join : iprop((bigSep Finset.univ fun s => anyOf c (aP c s)) ∗ bigSep Finset.univ fun x : X => anyOf c (aP (xr c x.1) x.2)) ⊢ (anyOf c aM : sProp 𝕄) := by
  rw [← bigSep_pieces c (fun p s => anyOf c (aP p s))]
  exact any_join c aM (fun t : Pc => rRect t.1 t.2) (fun _ _ => rfl) rRect_disj rRect_cov

/-- A 512 by 512 buffer is its one rectangle. -/
theorem full_rect {e : EltTy} (M : Memref sig .tc .vmem S512x512 e) (X : S512x512.Idx → Elt F e) :
    (owns (c : Thread nD τ) M fullShare X : sProp 𝕄)
      = owns (c : Thread nD τ) (M.slice (Rect.unit (s := S512x512) ![0, 0] S512x512.size inb_S512x512_S512x512_0_0) (fun _ => rfl)) fullShare X := by
  have hcov : Finset.univ.biUnion (fun _ : Unit => (Rect.unit (s := S512x512) ![0, 0] S512x512.size inb_S512x512_S512x512_0_0).set) = Finset.univ := by
    ext i
    simp only [Finset.mem_biUnion, Finset.mem_univ, true_and, iff_true]
    refine ⟨(), ?_⟩
    rw [Rect.mem_set_unit]
    intro a
    fin_cases a
    · exact ⟨Nat.zero_le _, by have := (i 0).isLt; simpa using this⟩
    · exact ⟨Nat.zero_le _, by have := (i 1).isLt; simpa using this⟩
  have he : ∀ y, (Rect.unit (s := S512x512) ![0, 0] S512x512.size inb_S512x512_S512x512_0_0).emb y = y := by
    intro y
    funext a
    fin_cases a <;> (apply Fin.ext; simp [Rect.emb_apply])
  have h1 := owns_rects (Val := Elt F) (Ix := Unit) (Name := ℕ) (U := UU) (Lvl := ℕ) (c : Thread nD τ) M fullShare (fun _ : Unit => Rect.unit (s := S512x512) ![0, 0] S512x512.size inb_S512x512_S512x512_0_0)
    (fun _ _ => rfl) (fun _ _ h => absurd rfl h) hcov X
  have h2 := owns_of_rects (Val := Elt F) (Ix := Unit) (Name := ℕ) (U := UU) (Lvl := ℕ) (c : Thread nD τ) M fullShare (fun _ : Unit => Rect.unit (s := S512x512) ![0, 0] S512x512.size inb_S512x512_S512x512_0_0)
    (fun _ _ => rfl) (fun _ _ h => absurd rfl h) hcov X
  rw [bigSep_univ_of_subsingleton (M := 𝕄) ()] at h1 h2
  simp only [he] at h1 h2
  exact equiv_iff.mp ⟨h1, h2⟩

/-! ## The beginning -/

/-- The credit of cell `i`, if another device pays it. -/
def crd (i : CI) : sProp 𝕄 := if pend D0 i then cr c i else iprop(emp)

theorem crd_own (i : CI) (h : pend D0 i = true) : (crd c i : sProp 𝕄) = cr c i := if_pos h

/-- The ghost state of cell `i` at the launch: the right to pay it at its target, and the position at the own one. -/
abbrev gst (i : CI) : sProp 𝕄 := iprop(tk c i ∗ at0 c i)

theorem start_J :
    iprop((bigSep Finset.univ fun j => gst c (cR j)) ∗ (bigSep Finset.univ fun j => crd c (cR j)) ∗ bigSep Finset.univ fun x => anyOf c (rbP x))
      ⊢ (bigSep Finset.univ fun j => PJ c j (D0.r j) : sProp 𝕄) := by
  rw [bigSep_univ_prod fun x : X => anyOf c (rbP x), ← bigSep_sep', ← bigSep_sep']
  refine bigSep_mono fun j _ => ?_
  rw [bigSep_univ_two, crd_own c (cR j) (by revert j; decide)]
  show iprop((tk c (cR j) ∗ at0 c (cR j)) ∗ cr c (cR j) ∗ anyOf c (rbP (j, 0)) ∗ anyOf c (rbP (j, 1)))
    ⊢ iprop(tk c (cR j) ∗ at0 c (cR j) ∗ cr c (cR j) ∗ anyOf c (rbP (j, 0)) ∗ anyOf c (rbP (j, 1)))
  iintro ⟨⟨H1, H2⟩, H3⟩
  isplitl [H1]; · iexact H1
  isplitl [H2]; · iexact H2
  iexact H3

theorem start_X :
    iprop((bigSep Finset.univ fun x => iprop(gst c (cX 0 x) ∗ gst c (cX 1 x) ∗ gst c (cX 2 x) ∗ gst c (cX 3 x)))
      ∗ (bigSep Finset.univ fun x => iprop(crd c (cX 0 x) ∗ crd c (cX 1 x) ∗ crd c (cX 2 x) ∗ crd c (cX 3 x)))
      ∗ bigSep Finset.univ fun x : X => anyOf c (aP (xr c x.1) x.2))
      ⊢ bigSep Finset.univ fun x => PX T c x (D0.x x) := by
  rw [← bigSep_sep', ← bigSep_sep']
  refine bigSep_mono fun x _ => ?_
  rw [crd_own c (cX 1 x) (by revert x; decide), crd_own c (cX 3 x) (by revert x; decide)]
  show iprop(((tk c (cX 0 x) ∗ at0 c (cX 0 x)) ∗ (tk c (cX 1 x) ∗ at0 c (cX 1 x)) ∗ (tk c (cX 2 x) ∗ at0 c (cX 2 x)) ∗ (tk c (cX 3 x) ∗ at0 c (cX 3 x)))
      ∗ (crd c (cX 0 x) ∗ cr c (cX 1 x) ∗ crd c (cX 2 x) ∗ cr c (cX 3 x)) ∗ anyOf c (aP (xr c x.1) x.2))
    ⊢ iprop((tk c (cX 0 x) ∗ tk c (cX 1 x) ∗ at0 c (cX 0 x) ∗ at0 c (cX 1 x) ∗ cr c (cX 1 x))
        ∗ (tk c (cX 2 x) ∗ tk c (cX 3 x) ∗ at0 c (cX 2 x) ∗ at0 c (cX 3 x) ∗ cr c (cX 3 x)) ∗ anyOf c (aP (xr c x.1) x.2))
  iintro ⟨⟨⟨A0, B0⟩, ⟨A1, B1⟩, ⟨A2, B2⟩, A3, B3⟩, ⟨-, C1, -, C3⟩, H⟩
  isplitl [A0 B0 A1 B1 C1]
  · isplitl [A0]; · iexact A0
    isplitl [A1]; · iexact A1
    isplitl [B0]; · iexact B0
    isplitl [B1]; · iexact B1
    iexact C1
  isplitl [A2 B2 A3 B3 C3]
  · isplitl [A2]; · iexact A2
    isplitl [A3]; · iexact A3
    isplitl [B2]; · iexact B2
    isplitl [B3]; · iexact B3
    iexact C3
  iexact H

theorem start_B : (iprop(gst c cB ∗ crd c cB) : sProp 𝕄) ⊢ PB c D0.b := by
  rw [crd_own c cB (by decide)]
  show iprop((tk c cB ∗ at0 c cB) ∗ cr c cB) ⊢ iprop(tk c cB ∗ at0 c cB ∗ cr c cB)
  iintro ⟨⟨H1, H2⟩, H3⟩
  isplitl [H1]; · iexact H1
  isplitl [H2] <;> iassumption

theorem start_W : (anyOf c wbM : sProp 𝕄) ⊢ PW Wt c D0.wb := by
  show anyOf c wbM ⊢ anyOf c wbP
  unfold anyOf
  iintro ⟨%v, H⟩
  iexists v
  iapply (Entails.of_eq (full_rect c wbM v)); iexact H

theorem start_U : anyOf c oM ⊢ bigSep Finset.univ fun i => PU T Wt c (rel c i) (D0.ou i) :=
  (any_split c oM bRect (fun _ _ => rfl) bRect_disj bRect_cov).trans (Entails.of_eq (bigSep_univ_equiv (relE c) fun p => anyOf c (oP p)))
theorem start_R : anyOf c rdM ⊢ bigSep Finset.univ fun s => PR T c s (D0.rd s) :=
  any_split c rdM hRect (fun _ _ => rfl) hRect_disj hRect_cov

/-- What the launch gives is the first stage. -/
theorem start_stage :
    iprop(recs T K ∗ Ow c (pend D0) ∗ (bigSep Finset.univ fun i => gst c i) ∗ (bigSep Finset.univ fun i => crd c i)
      ∗ owns (c : Thread nD τ) tM fullShare (T c) ∗ owns (c : Thread nD τ) wM fullShare (Wt c)
      ∗ anyOf c aM ∗ anyOf c wbM ∗ anyOf c rdM ∗ anyOf c rbM ∗ anyOf c oM) ⊢ St T Wt K c D0 := by
  rw [bigSep_cells fun i => gst c i, bigSep_cells fun i => crd c i]
  unfold St
  iintro ⟨HR, HO, ⟨HgB, HgJ, HgX⟩, ⟨HcB, HcJ, HcX⟩, Ht, Hw, Ha, Hwb, Hrd, Hrb, Ho⟩
  ihave Ha := (acc_split c) $$ Ha
  icases Ha with ⟨HaO, HaX⟩
  ihave Hrb := (any_split c rbM sRect (fun _ _ => rfl) sRect_disj sRect_cov) $$ Hrb
  isplitl [HR]; · iexact HR
  isplitl [HO]; · iexact HO
  isplitl [HgB HcB]
  · iapply (start_B c)
    isplitl [HgB] <;> iassumption
  isplitl [HgJ HcJ Hrb]
  · iapply (start_J c)
    isplitl [HgJ]; · iexact HgJ
    isplitl [HcJ] <;> iassumption
  isplitl [HgX HcX HaX]
  · iapply (start_X T c)
    isplitl [HgX]; · iexact HgX
    isplitl [HcX] <;> iassumption
  isplitl [Ht]; · iexact Ht
  isplitl [Hw]
  · iapply (Entails.of_eq (full_rect c wM (Wt c))); iexact Hw
  isplitl [Hwb]
  · iapply (start_W Wt c); iexact Hwb
  isplitl [Hrd]
  · iapply (start_R T c); iexact Hrd
  isplitl [HaO]; · iexact HaO
  iapply (start_U T Wt c); iexact Ho

/-! ## The end -/

/-- The whole result of device `c`, from its blocks. -/
def outF (c : Dev nD) : Vec F S1024x512 .bf16 := Rect.glue bRect bRect_cov (outV T Wt c)

/-- The shares of an own piece joined. -/
theorem end_O : iprop((bigSep Finset.univ fun s => PO T c s 1) ∗ bigSep Finset.univ fun x => own1 T c x) ⊢ bigSep Finset.univ fun s => anyOf c (aP c s) := by
  rw [bigSep_univ_prod fun x : X => own1 T c x, bigSep_univ_comm, ← bigSep_sep']
  exact bigSep_mono fun s _ => (Entails.of_eq (deal s (accV T c s)).symm).trans (any_of c _ _)

theorem end_A : iprop((bigSep Finset.univ fun s => anyOf c (aP c s)) ∗ bigSep Finset.univ fun x : X => owns (c : Thread nD τ) (aP (xr c x.1) x.2) fullShare (accV T (xr c x.1) x.2))
    ⊢ anyOf c aM :=
  (sep_mono_right (bigSep_mono fun x _ => any_of c _ _)).trans (acc_join c)

theorem end_W : PW Wt c 1 ⊢ anyOf c wbM := (Entails.of_eq (full_rect c wbM (wbV Wt c)).symm).trans (any_of c _ _)
theorem end_R : (bigSep Finset.univ fun s => PR T c s 8) ⊢ anyOf c rdM :=
  (bigSep_mono fun s _ => any_of c (rdP s) (redV T c s 7)).trans (any_join c rdM hRect (fun _ _ => rfl) hRect_disj hRect_cov)
theorem end_S : (bigSep Finset.univ fun x => slot1 T c x) ⊢ anyOf c rbM :=
  (bigSep_mono fun x _ => any_of c (rbP x) _).trans (any_join c rbM sRect (fun _ _ => rfl) sRect_disj sRect_cov)
theorem end_U : (bigSep Finset.univ fun i => PU T Wt c (rel c i) 1) ⊢ owns (c : Thread nD τ) oM fullShare (outF T Wt c) :=
  (Entails.of_eq (bigSep_univ_equiv (relE c) fun p => owns (c : Thread nD τ) (oP p) fullShare (outV T Wt c p)).symm).trans
    (owns_glue c oM bRect (fun _ _ => rfl) bRect_disj bRect_cov (outV T Wt c))

/-- From the last stage come the operands as they were, the result, the other buffers, and every semaphore at zero. -/
theorem stage_end :
    St T Wt K c D35 ⊢ iprop(Ow c (fun _ => false) ∗ (bigSep Finset.univ fun i => sv c i)
      ∗ owns (c : Thread nD τ) tM fullShare (T c) ∗ owns (c : Thread nD τ) wM fullShare (Wt c)
      ∗ anyOf c aM ∗ anyOf c wbM ∗ anyOf c rdM ∗ anyOf c rbM ∗ owns (c : Thread nD τ) oM fullShare (outF T Wt c)) := by
  have hp : pend D35 = fun _ => false := by funext i; revert i; decide +kernel
  have hr : D35.r = fun _ => 2 := by funext i; revert i; decide +kernel
  have hx : D35.x = fun _ => 9 := by funext i; revert i; decide +kernel
  have hd : D35.rd = fun _ => 8 := by funext i; revert i; decide +kernel
  have ho : D35.ow = fun _ => 1 := by funext i; revert i; decide +kernel
  have hu : D35.ou = fun _ => 1 := by funext i; revert i; decide +kernel
  have hb : D35.b = 2 := by decide +kernel
  have hw : D35.wb = 1 := by decide +kernel
  unfold St
  rw [hp, hr, hx, hd, ho, hu, hb, hw, bigSep_cells fun i => sv c i]
  have e9 : (fun x : X => PX T c x 9) = fun x => iprop(sv c (cX 0 x) ∗ sv c (cX 1 x) ∗ slot1 T c x ∗ sv c (cX 2 x) ∗ own1 T c x ∗ sv c (cX 3 x)
      ∗ owns (c : Thread nD τ) (aP (xr c x.1) x.2) fullShare (accV T (xr c x.1) x.2)) := rfl
  have eJ : (fun j : Fin 7 => (PJ c j 2 : sProp 𝕄)) = fun j => sv c (cR j) := rfl
  have eB : (PB c 2 : sProp 𝕄) = sv c cB := rfl
  rw [e9, eJ, eB]
  simp only [bigSep_sep']
  iintro ⟨-, HO, HB, HJ, ⟨H0, H1, Hs, H2, Ho1, H3, Hp⟩, Ht, Hw, Hwb, Hrd, Hpo, Hu⟩
  isplitl [HO]; · iexact HO
  isplitl [HB HJ H0 H1 H2 H3]
  · isplitl [HB]; · iexact HB
    isplitl [HJ]; · iexact HJ
    isplitl [H0]; · iexact H0
    isplitl [H1]; · iexact H1
    isplitl [H2] <;> iassumption
  isplitl [Ht]; · iexact Ht
  isplitl [Hw]
  · iapply (Entails.of_eq (full_rect c wM (Wt c)).symm); iexact Hw
  isplitl [Ho1 Hp Hpo]
  · iapply (end_A T c)
    isplitl [Ho1 Hpo]
    · iapply (end_O T c)
      isplitl [Hpo] <;> iassumption
    · iexact Hp
  isplitl [Hwb]
  · iapply (end_W Wt c); iexact Hwb
  isplitl [Hrd]
  · iapply (end_R T c); iexact Hrd
  isplitl [Hs]
  · iapply (end_S T c); iexact Hs
  iapply (end_U T Wt c); iexact Hu

end RsAg
-- ==== Proof.Launch.lean ====
/-
The launch: the semaphores' cells allocated for all devices, the rights to pay dealt to the devices that pay, the
credit, and the run of the whole program.
-/
module

public import proofs.«01_k».proof.Proof.Ends
public import proofs.«01_k».proof.Proof.Gen.KernelIdeal.Frame
public import Idealize.ShloMosaic.Lib.Pipeline.CollectiveSegs

@[expose] public section

noncomputable section

namespace RsAg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- Device `c`'s block of the operand and its weights, as staged. -/
def tOf (c : Dev nD) : Vec F S1024x512 .f32 := (win0_0.blk (0 : Fin 1)).view.read (Elt F) ((s₀ m ρ).mem ((c : Thread nD τ).loc main_arg0))
def wOf (c : Dev nD) : Vec F S512x512 .f32 := (win0_1.blk (0 : Fin 1)).view.read (Elt F) ((s₀ m ρ).mem ((c : Thread nD τ).loc main_arg1))

/-- What device `c` owes at the launch. -/
abbrev O₀ (c : Dev nD) : CellTallies nD τ sig Unit := debt c (pend D0)

/-- What device `c`'s body starts from, buffers aside. -/
def start (c : Dev nD) : sProp 𝕄 :=
  iprop((∃ K, recs (tOf m ρ) K) ∗ (bigSep Finset.univ fun i => gst c i) ∗ bigSep Finset.univ fun i => crd c i)

/-- Before the body: that and the scratch buffers. -/
def Φ₀ (c : Dev nD) : sProp 𝕄 := iprop(start m ρ c ∗ anyOf c aM ∗ anyOf c wbM ∗ anyOf c rdM ∗ anyOf c rbM)
/-- After it: every semaphore at zero, and the scratch buffers. -/
def Φ₁ (c : Dev nD) : sProp 𝕄 := iprop((bigSep Finset.univ fun i => sv c i) ∗ anyOf c aM ∗ anyOf c wbM ∗ anyOf c rdM ∗ anyOf c rbM)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tOf m ρ c
    | ⟨1, _⟩ => wOf m ρ c
    | ⟨2, _⟩ => outF (tOf m ρ) (wOf m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

def bodyPre (c : Dev nD) : sProp 𝕄 :=
  iprop(Φ₀ m ρ c ∗ (dats m ρ 0 c).owesAt () t0_0.castSucc
    ∗ (∃ d, owns (c : Thread nD τ) tM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))
def bodyPost (c : Dev nD) : sProp 𝕄 :=
  iprop(Φ₁ c ∗ (dats m ρ 0 c).owesAt () t0_0.succ
    ∗ owns (c : Thread nD τ) tM fullShare (tOf m ρ c) ∗ owns (c : Thread nD τ) wM fullShare (wOf m ρ c)
    ∗ owns (c : Thread nD τ) oM fullShare (outF (tOf m ρ) (wOf m ρ) c))

theorem before_t (c : Dev nD) (d) : (dats m ρ 0 c).before (0 : Fin 3) t0_0 d = tOf m ρ c := by
  unfold Dat.before; rw [if_pos (fetch0_0 t0_0)]; rfl
theorem before_w (c : Dev nD) (d) : (dats m ρ 0 c).before (1 : Fin 3) t0_0 d = wOf m ρ c := by
  unfold Dat.before; rw [if_pos (fetch0_1 t0_0)]; rfl

/-- What the library gives the body is the walk's beginning. -/
theorem pre_stage (c : Dev nD) : bodyPre m ρ c ⊢ iprop(∃ K, St (tOf m ρ) (wOf m ρ) K c D0) := by
  unfold bodyPre Φ₀ start Dat.owesAt Pipeline.owesWithin
  rw [show (dats m ρ 0 c).owed t0_0.castSucc = O₀ c from rfl]
  iintro ⟨⟨⟨⟨%K, HR⟩, Hg, Hc⟩, Ha, Hwb, Hrd, Hrb⟩, ⟨%W, -, HO⟩, ⟨%d0, Ht⟩, ⟨%d1, Hw⟩, ⟨%d2, Ho⟩⟩
  iexists K
  iapply (start_stage (tOf m ρ) (wOf m ρ) K c)
  isplitl [HR]; · iexact HR
  isplitl [HO]; · unfold Ow; iexists W; iexact HO
  isplitl [Hg]; · iexact Hg
  isplitl [Hc]; · iexact Hc
  isplitl [Ht]; · rw [← before_t m ρ c d0]; iexact Ht
  isplitl [Hw]; · rw [← before_w m ρ c d1]; iexact Hw
  isplitl [Ha]; · iexact Ha
  isplitl [Hwb]; · iexact Hwb
  isplitl [Hrd]; · iexact Hrd
  isplitl [Hrb]; · iexact Hrb
  iapply (any_of c oM _); iexact Ho

theorem debt_none (c : Dev nD) : debt c (fun _ => false) = 0 := Finset.sum_eq_zero fun i _ => if_neg Bool.false_ne_true

/-- And the walk's end is what the library wants back. -/
theorem post_stage (K : Dev nD × CI → ℕ) (c : Dev nD) : St (tOf m ρ) (wOf m ρ) K c D35 ⊢ bodyPost m ρ c := by
  refine (stage_end (tOf m ρ) (wOf m ρ) K c).trans ?_
  unfold bodyPost Φ₁ Dat.owesAt Pipeline.owesWithin Ow
  rw [show (dats m ρ 0 c).owed t0_0.succ = 0 from rfl, debt_none]
  iintro ⟨⟨%W, HO⟩, Hs, Ht, Hw, Ha, Hwb, Hrd, Hrb, Ho⟩
  isplitl [Hs Ha Hwb Hrd Hrb]
  · isplitl [Hs]; · iexact Hs
    isplitl [Ha]; · iexact Ha
    isplitl [Hwb]; · iexact Hwb
    isplitl [Hrd] <;> iassumption
  isplitl [HO]
  · iexists W
    isplitr; · ipureintro; exact fun _ _ => Or.inl trivial
    iexact HO
  isplitl [Ht]; · iexact Ht
  isplitl [Hw] <;> iassumption

set_option maxRecDepth 20000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ WP c (app cc0_body) fun _ => bodyPost m ρ c
  refine (pre_stage m ρ c).trans ?_
  iintro ⟨%K, H⟩
  iapply (body (Q := fun _ => bodyPost m ρ c) (post_stage m ρ K c)); iexact H

/-! ## The launch -/

set_option maxRecDepth 20000 in
theorem ownSemFacts : Pipeline.OwnSemFacts cfg0.spec osem := by decide +kernel

theorem share_eq (c : Dev nD) (w : Fin cfg0.W) : (dats m ρ 0 c).share w = fullShare := by unfold Dat.share; split <;> rfl

/-- The cells, and the rights to pay them as minted. -/
def ringCells : Finset (GSem nD τ sig) := Finset.univ.map ⟨kcell, kcell_inj⟩
def ringToks : Finset (GSem nD τ sig × ℕ × Unit) :=
  Finset.univ.map ⟨fun ci : Dev nD × CI => (kcell ci, 0, ()), fun _ _ h => kcell_inj (congrArg Prod.fst h)⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun i => roundState ER (Rd (tOf m ρ)) (kcell (c, i)) 0) ∗ (bigSep Finset.univ fun i => at0 c i)
    ∗ (bigSep Finset.univ fun i => reached ER (kcell (c, i)) 0) ∗ bigSep Finset.univ fun i => dutyTok ER (kcell (c, i)) 0 ())

/-- What every device knows of the protocol, levels aside. -/
def recs' (T : Dev nD → Vec F S1024x512 .f32) (K : Dev nD × CI → ℕ) : sProp 𝕄 :=
  iprop((bigSep Finset.univ fun ci : Dev nD × CI => cellInv ER (Rd T) (K ci) (kcell ci))
    ∗ (bigSep Finset.univ fun ci : Dev nD × CI => reached ER (kcell ci) 0))
instance recs'_persistent (T : Dev nD → Vec F S1024x512 .f32) (K : Dev nD × CI → ℕ) : BI.Persistent (recs' T K) := by unfold recs'; infer_instance

/-- What the global step makes of it. -/
def G' (c : Dev nD) : sProp 𝕄 := iprop((∃ K, recs' (tOf m ρ) K) ∗ bigSep Finset.univ fun i => gst c i)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun i : CI => dutyTok ER (kcell (c, i)) 0 () := by
    unfold ringToks; rw [bigSep_map, bigSep_univ_prod]; rfl
  iintro HX
  imod (Rounds.fund ER (Rd (tOf m ρ)) ringCells ringToks) $$ HX with ⟨Hst, Hr, Hat, Htok⟩
  imodintro
  ihave Hst' := (Entails.of_eq (hX fun g => roundState ER (Rd (tOf m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The barrier semaphore is the launch's one unscoped semaphore. -/
theorem unscopedSems0_eq (c : Dev nD) : (unscopedSems0 c : sProp 𝕄) = sv c cB := by
  unfold unscopedSems0; rw [bigSep_eq_bigSepL_of_eq [SemLoc.reg barS] (by decide +kernel) (by decide)]; rfl

/-- The semaphores at zero, the kernel's own and the barrier's, are the cells'. -/
theorem sems0_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun i => sv c i := by
  rw [unscopedSems0_eq, bigSep_univ_sum, bigSep_univ_of_subsingleton ()]
  exact equiv_iff.mp ⟨Idealize.SL.BI.sep_comm, Idealize.SL.BI.sep_comm⟩

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd (tOf m ρ)) κ (kcell (c, i))))
          ∗ (bigSep Finset.univ fun i => at0 c i) ∗ (bigSep Finset.univ fun i => reached ER (kcell (c, i)) 0)
          ∗ bigSep Finset.univ fun i => dutyTok ER (kcell (c, i)) 0 ()) := by
  unfold G
  iintro ⟨Hos, Hus, Hst, Hrest⟩
  ihave Hv := (Entails.of_eq (sems0_eq (F := F) c)) $$ [Hos Hus]
  · isplitl [Hos] <;> iassumption
  imod (show iprop((bigSep Finset.univ fun i => sv c i) ∗ bigSep Finset.univ fun i => roundState ER (Rd (tOf m ρ)) (kcell (c, i)) 0)
      ⊢ (|={Set.univ}=> bigSep Finset.univ fun i => iprop(∃ κ : ℕ, cellInv ER (Rd (tOf m ρ)) κ (kcell (c, i))) : sProp 𝕄) from by
        rw [← bigSep_sep']
        exact (bigSep_mono fun i _ => (Rounds.body_intro ER (Rd (tOf m ρ)) (kcell (c, i))).trans inv_alloc).trans (bigSep_fupd _ _)) $$ [Hv Hst] with Hinv
  · isplitl [Hv] <;> iassumption
  imodintro
  isplitl [Hinv]; · iexact Hinv
  iexact Hrest

/-- The rights to pay, dealt to the devices that pay. -/
theorem toks_deal : (bigSep Finset.univ fun c : Dev nD => bigSep Finset.univ fun i : CI => (dutyTok ER (kcell (c, i)) 0 () : sProp 𝕄))
    = bigSep Finset.univ fun c : Dev nD => bigSep Finset.univ fun i : CI => tk c i := by
  rw [bigSep_univ_comm]
  rw [bigSep_univ_comm fun (c : Dev nD) (i : CI) => (tk c i : sProp 𝕄)]
  exact bigSep_congr fun i _ => bigSep_univ_equiv (tgtE i) fun c : Dev nD => (dutyTok ER (kcell (c, i)) 0 () : sProp 𝕄)

/-- Every device is given what it knows of the protocol beside its own share. -/
theorem spread (K : Dev nD × CI → ℕ) :
    iprop(recs' (tOf m ρ) K ∗ bigSep Finset.univ fun c : Dev nD => bigSep Finset.univ fun i : CI => gst c i) ⊢ bigSep Finset.univ (G' m ρ) := by
  refine (sep_mono_left (BI.bigSep_of_persistent (Finset.univ : Finset (Dev nD)) _)).trans ?_
  rw [← bigSep_sep']
  refine bigSep_mono fun c _ => ?_
  unfold G'
  exact sep_mono_left (exists_intro (Φ := fun K => recs' (tOf m ρ) K) K)

theorem regroup :
    (bigSep Finset.univ fun c : Dev nD => iprop((bigSep Finset.univ fun i => iprop(∃ κ : ℕ, cellInv ER (Rd (tOf m ρ)) κ (kcell (c, i))))
          ∗ (bigSep Finset.univ fun i => at0 c i) ∗ (bigSep Finset.univ fun i => reached ER (kcell (c, i)) 0)
          ∗ bigSep Finset.univ fun i => dutyTok ER (kcell (c, i)) 0 ()) : sProp 𝕄)
      ⊢ bigSep Finset.univ (G' m ρ) := by
  rw [bigSep_sep', bigSep_sep', bigSep_sep', ← bigSep_univ_prod (fun ci : Dev nD × CI => iprop(∃ κ : ℕ, cellInv ER (Rd (tOf m ρ)) κ (kcell ci))),
    ← bigSep_univ_prod (fun ci : Dev nD × CI => (reached ER (kcell ci) 0 : sProp 𝕄)), toks_deal]
  iintro ⟨HI, Hat, #HR, Htok⟩
  ihave HK := (BI.bigSep_exists_pi Finset.univ (fun (ci : Dev nD × CI) (κ : ℕ) => (cellInv ER (Rd (tOf m ρ)) κ (kcell ci) : sProp 𝕄))) $$ HI
  icases HK with ⟨%K, #HI⟩
  iapply (spread m ρ K)
  isplitr
  · unfold recs'
    isplitl; · iexact HI
    iexact HR
  · simp only [bigSep_sep']
    isplitl [Htok] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What device `d` owes cell `i` of device `c`: what the cell counts if `d` is the one that pays it. -/
theorem owed_cell (d c : Dev nD) (i : CI) (h : pend D0 i = true) : O₀ d (kcell (c, i)) () = if d = tgt c i then amt i else 0 := by
  unfold O₀ debt
  rw [Finset.sum_apply, Finsupp.finset_sum_apply, Finset.sum_eq_single i]
  · rw [if_pos h, tallyAt_apply]
    by_cases e : d = tgt c i
    · subst e; rw [if_pos rfl, tgt_tgt]; exact if_pos ⟨rfl, rfl⟩
    · rw [if_neg e]
      exact if_neg fun ⟨hk, _⟩ => e (by
        have h1 : c = tgt d i := congrArg Prod.fst (kcell_inj hk)
        rw [h1, tgt_tgt])
  · intro j _ hj
    by_cases hp : pend D0 j = true
    · rw [if_pos hp, tallyAt_apply]
      exact if_neg fun ⟨hk, _⟩ => hj (congrArg Prod.snd (kcell_inj hk)).symm
    · rw [if_neg hp]; rfl
  · intro hi; exact absurd (Finset.mem_univ i) hi

theorem launch_cell (c : Dev nD) (i : CI) (h : pend D0 i = true) :
    tallyOn (kcell (c, i)) (launchCredit (Pipeline.owing O₀) 0 (kcell (c, i))) = (tallyAt (kcell (c, i)) () (amt i) : CellTallies nD τ sig Unit) := by
  unfold tallyAt; refine congrArg _ (Finsupp.ext fun u => ?_); cases u
  rw [Pipeline.launchCredit_owing, Finsupp.single_eq_same, Finset.sum_congr rfl fun d _ => owed_cell d c i h,
    Finset.sum_ite_eq' Finset.univ (tgt c i) fun _ => amt i, if_pos (Finset.mem_univ _)]

theorem drop_any (P : sProp 𝕄) : P ⊢ iprop(emp) := by iintro -; iempintro

theorem creds (c : Dev nD) : (Pipeline.launchCred O₀ c : sProp 𝕄) ⊢ bigSep Finset.univ fun i => crd c i := by
  unfold Pipeline.launchCred
  refine (BI.bigSep_subset (Finset.subset_univ ((Finset.univ : Finset CI).map ⟨csem, csem_inj⟩))).trans ?_
  rw [bigSep_map]
  refine bigSep_mono fun i _ => ?_
  by_cases h : pend D0 i = true
  · rw [crd_own c i h]
    unfold cr
    rw [← launch_cell c i h]
    exact BI.Entails.refl _
  · unfold crd
    rw [if_neg h]
    exact drop_any _

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' recs recs'
  icases HG with ⟨⟨%K, HI, HR⟩, Hg⟩
  isplitl
  · isplitl [HI HR Hlev]
    · iexists K
      isplitl [HI]; · iexact HI
      isplitl [HR] <;> iassumption
    isplitl [Hg] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq, any_whole, any_whole, any_whole, any_whole]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, any_whole, any_whole, any_whole, any_whole]
  unfold Φ₁
  rw [← sems0_eq]
  iintro ⟨⟨Ho, Hu⟩, Hr⟩
  isplitl [Hu]; · iexact Hu
  isplitl [Ho] <;> iassumption

set_option maxRecDepth 20000 in
theorem stage_not_cell : ∀ (w : Fin 3) (s : Fin (spec0 w).nbuf) (i : CI), csem i ≠ .dma ((spec0 w).sem s) := by decide +kernel

theorem clev_pos : ∀ i : CI, 0 < clev i := by decide +kernel
theorem stage_lt {q : DmaSem sig} (hq : ∀ i, csem i ≠ .dma q) (i : CI) : (decode (.dma q)).elim 0 clev < clev i := by
  rw [show decode (.dma q) = none from dif_neg fun ⟨i, hi⟩ => hq i hi]
  exact clev_pos i

/-- A device may wait at a staging semaphore, whatever it owes. -/
theorem mayWait_stage (c : Dev nD) (q : DmaSem sig) (hq : ∀ i, csem i ≠ .dma q) (P : CI → Bool) :
    (levAts L lv : sProp 𝕄) ⊢ MayWait (c : Thread nD τ) (.dma q) () (debt c P) := by
  refine mayWait c _ P fun i _ => stage_lt hq i

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (stage_not_cell w s) (pend D0)
    · have h := mayWait_stage (F := F) c _ (stage_not_cell w s) fun _ => false
      rw [debt_none] at h
      exact h

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- For any float values, from any memory with zero counters: every weakly fair execution of the program on the eight
    devices terminates, and every final state has each device's result array at the computed contents, the arguments
    unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_t (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end RsAg
-- ==== Proof.Value.lean ====
/-
What the kernel computes in exact arithmetic: every device's result is the product of the sum of the devices' operands
with its own weights.
-/
module

public import proofs.«01_k».proof.Proof.Ends
public import Idealize.ShloMosaic.Lib.MatmulPlain
public import Idealize.ShloMosaic.Lib.ValueIdx
public import Idealize.ShloMosaic.Lib.Pipeline.Value

@[expose] public section

noncomputable section

namespace RsAg

open Cert.KernelIdeal Cert.KernelIdeal.Gen
open Idealize.ShloMosaic Idealize.ShloMosaic.TcCoe
open Idealize.ShloMosaic.ValueIdx

variable (T : Dev nD → Vec Ideal S1024x512 .f32) (Wt : Dev nD → Vec Ideal S512x512 .f32)

/-- The piece in a landing slot, taken out of it, is the sender's piece. -/
theorem slot_apply (d c : Dev nD) (s : Fin 2) (y : S64x512.Idx) :
    (shapeCast S64x512 (slV T d c s) shapeCasts_S1x64x512_S64x512) y = tP T d c s y := by
  show rsV T d c s ((Shape.reshapeEquiv squeezes_S1x64x512_S64x512.numel_eq).symm (Shape.reshapeEquiv shapeCasts_S1x64x512_S64x512 y)) = _
  rw [show (Shape.reshapeEquiv shapeCasts_S1x64x512_S64x512 y) = Shape.reshapeEquiv squeezes_S1x64x512_S64x512.numel_eq y from rfl, Equiv.symm_apply_apply]
  unfold rsV k0_pay2
  rw [shapeCast_self, shapeCast_self]
  rfl

theorem redV_zero (c : Dev nD) (s : Fin 2) (y : S64x512.Idx) : redV T c s 0 y = tP T c c s y := by
  show k0_pay18 (tP T c c s) y = _
  unfold k0_pay18
  rw [shapeCast_self, shapeCast_self]

/-- One more peer's piece is added. -/
theorem redV_succ (c : Dev nD) (s : Fin 2) (n : ℕ) (y : S64x512.Idx) :
    redV T c s (n + 1) y = (redV T c s n y + tP T (xr c (jord n)) c s y : EReal) := by
  show k0_pay19 (redV T c s n) (slV T (xr c (jord n)) c s) y = _
  unfold k0_pay19
  rw [shapeCast_self]
  exact congrArg (redV T c s n y + · : EReal → EReal) (slot_apply T (xr c (jord n)) c s y)

/-- The reduced piece is the sum over all devices. -/
theorem accV_apply (p : Dev nD) (s : Fin 2) (y : S64x512.Idx) :
    accV T p s y = (∑ d : Dev nD, T d ((rRect p s).emb y) : EReal) := by
  unfold accV k0_pay26
  rw [shapeCast_self]
  show redV T p s 7 y = _
  rw [← Equiv.sum_comp (relE p), Fintype.sum_option, Fin.sum_univ_seven]
  iterate 7 rw [redV_succ]
  rw [redV_zero]
  show (tP T p p s y + tP T (xr p 0) p s y + tP T (xr p 2) p s y + tP T (xr p 3) p s y + tP T (xr p 1) p s y + tP T (xr p 4) p s y
      + tP T (xr p 6) p s y + tP T (xr p 5) p s y : EReal)
    = tP T p p s y + (tP T (xr p 0) p s y + tP T (xr p 1) p s y + tP T (xr p 2) p s y + tP T (xr p 3) p s y + tP T (xr p 4) p s y
      + tP T (xr p 5) p s y + tP T (xr p 6) p s y)
  abel

/-- An index that lies in one of the rectangles of a cover is that rectangle's image of some index. -/
theorem exists_emb {I : Type} [Fintype I] {S : Shape} {r : I → Rect S} (hc : (Finset.univ : Finset I).biUnion (fun t => (r t).set) = Finset.univ) (i : S.Idx) :
    ∃ t y, (r t).emb y = i := by
  obtain ⟨t, -, h⟩ := Finset.mem_biUnion.mp (hc ▸ Finset.mem_univ i)
  rw [← Rect.map_emb_univ] at h
  obtain ⟨y, -, e⟩ := Finset.mem_map.mp h
  exact ⟨t, y, e⟩

/-- The same of a whole block, its two pieces together. -/
theorem cat_apply (p : Dev nD) (w : S128x512.Idx) : cat (accV T p) w = (∑ d : Dev nD, T d ((bRect p).emb w) : EReal) := by
  obtain ⟨s, y, rfl⟩ := exists_emb hRect_cov w
  rw [cat_emb, accV_apply, bRect_hRect]

/-- An index of a block at its place in the array. -/
theorem bRect_row (p : Dev nD) (r : Fin 128) (q k : Fin 512) :
    ∃ a : Fin 1024, (bRect p).emb (ix2 r q) = ix2 a q ∧ (bRect p).emb (ix2 r k) = ix2 a k := by
  refine ⟨⟨128 * p.val + r.val, by have := p.isLt; have := r.isLt; have : nD = 8 := rfl; omega⟩, ?_, ?_⟩ <;>
  · funext a
    fin_cases a <;> (apply Fin.ext; simp [Rect.emb_apply, boff])

/-- The product at an index of a block. -/
theorem outV_apply (c p : Dev nD) (r : Fin 128) (q : Fin 512) :
    outV T Wt c p (ix2 r q) = (∑ k : Fin 512, (∑ d : Dev nD, T d ((bRect p).emb (ix2 r k))) * Wt c (ix2 k q) : EReal) := by
  have hw : wbV Wt c = (Wt c : FVec Ideal S512x512 .f32) := by
    unfold wbV k0_pay17
    simp only [shapeCast_self]
    rfl
  unfold outV
  rw [hw]
  refine (Ideal.matmul_plain_apply (M := 128) (K := 512) (N := 512) (φ₁ := .bf16) (φ₂ := .bf16) none _ _ _ r q).trans ?_
  refine (congrArg (· + _ : EReal → EReal) Ideal.ofBits_zero_f32).trans ((zero_add _).trans ?_)
  exact Finset.sum_congr rfl fun k _ => congrArg (· * Wt c (ix2 k q) : EReal → EReal) (cat_apply T p (ix2 r k))

/-- What device `c`'s result is, index by index. -/
theorem outF_apply (c : Dev nD) (a : Fin 1024) (q : Fin 512) :
    outF T Wt c (ix2 a q) = (∑ k : Fin 512, (∑ d : Dev nD, T d (ix2 a k)) * Wt c (ix2 k q) : EReal) := by
  obtain ⟨p, y, h⟩ := exists_emb bRect_cov (ix2 a q)
  obtain ⟨r, q', rfl⟩ : ∃ (r : Fin 128) (q' : Fin 512), y = ix2 r q' := ⟨_, _, eq_ix2 y⟩
  have hrow : ∀ k, (bRect p).emb (ix2 r k) = ix2 a k ∧ q' = q := fun k => by
    obtain ⟨a', h1, h2⟩ := bRect_row p r q' k
    have e := h1.symm.trans h
    have ea : a' = a := congrFun e 0
    exact ⟨ea ▸ h2, congrFun e 1⟩
  obtain rfl := (hrow q).2
  rw [← h]
  unfold outF
  rw [Rect.glue_emb bRect bRect_cov bRect_disj, outV_apply]
  exact Finset.sum_congr rfl fun k _ => by simp only [(hrow k).1]

end RsAg
-- ==== Proof.RefValue.lean ====
/-
What the reference computes in exact arithmetic, index by index.
-/
module

public import proofs.«01_k».proof.Proof.Gen.ReferenceIdeal.Run
public import Idealize.ShloMosaic.Lib.StackMember
public import Idealize.ShloMosaic.Lib.ValueIdx
public import Idealize.ShloMosaic.Lib.Layout
public import Idealize.ShloMosaic.PureOps.Ideal.Laws

@[expose] public section

noncomputable section

namespace RsAgRef

open Cert.ReferenceIdeal Cert.ReferenceIdeal.Gen
open Idealize.ShloMosaic Idealize.ShloMosaic.TcCoe
open Idealize.ShloMosaic.ValueIdx

variable (X : FVec Ideal S8192x512 .f32) (W : FVec Ideal S512x512 .f32)

/-- The reference's result. -/
def out : FVec Ideal S1024x512 .bf16 :=
  truncf .bf16 (Host.dotGeneral dot_S1024x512_S512x512_S1024x512_1_0_0_1_n_n none (Host.reduceAdd (shapeCast _ X shapeCasts_S8192x512_S8x1024x512) (constant S_ .f32 0x00000000#32) reducesTo_S8x1024x512_S1024x512_d0 h_S_) W) bitsLt_bf16_f32

theorem reduces : S8x1024x512.Reduces [0] S1024x512 := by decide
theorem tiles : Layout.Tiles ⟨2, ![1024, 512]⟩ ⟨2, ![8192, 512]⟩ 0 8 := by decide

/-- Index `(d, a, k)` of the reshaped operand is index `(a, k)` of its block `d`. -/
theorem reshape_apply (d : Fin 8) (a : Fin 1024) (k : Fin 512) :
    shapeCast S8x1024x512 X shapeCasts_S8192x512_S8x1024x512 (ix3 d a k) = Layout.block ⟨2, ![1024, 512]⟩ ⟨2, ![8192, 512]⟩ 0 8 d X tiles (ix2 a k) := by
  refine shapeCast_apply X _ (ix3 d a k) (tiles.idx d (ix2 a k)) ?_
  rw [Shape.rowMajor_val_two, Shape.rowMajor_val_three]
  have h := Layout.idx_rows_val tiles d (ix2 a k)
  rw [h.1, h.2]
  rfl

/-- The sum over the blocks. -/
theorem sum_apply (a : Fin 1024) (k : Fin 512) :
    Host.reduceAdd (shapeCast S8x1024x512 X shapeCasts_S8192x512_S8x1024x512) (constant S_ .f32 0x00000000#32) reducesTo_S8x1024x512_S1024x512_d0 h_S_ (ix2 a k)
      = (∑ d : Fin 8, Layout.block ⟨2, ![1024, 512]⟩ ⟨2, ![8192, 512]⟩ 0 8 d X tiles (ix2 a k) : EReal) := by
  refine (Ideal.hostReduceAdd_single reducesTo_S8x1024x512_S1024x512_d0 reduces _ _ (ix2 a k)).trans ?_
  refine (congrArg (· + _ : EReal → EReal) Ideal.ofBits_zero_f32).trans ((zero_add _).trans ?_)
  refine Finset.sum_congr rfl fun d _ => ?_
  refine (congrArg (shapeCast S8x1024x512 X shapeCasts_S8192x512_S8x1024x512) (funext fun b => ?_)).trans (reshape_apply X d a k)
  match b with
  | ⟨0, _⟩ => rfl
  | ⟨1, _⟩ => rfl
  | ⟨2, _⟩ => rfl

theorem out_apply (a : Fin 1024) (q : Fin 512) :
    out X W (ix2 a q) = (∑ k : Fin 512, (∑ d : Fin 8, Layout.block ⟨2, ![1024, 512]⟩ ⟨2, ![8192, 512]⟩ 0 8 d X tiles (ix2 a k)) * W (ix2 k q) : EReal) := by
  refine (StackMember.dotGeneral_plain_apply (m := 1024) (k := 512) (n := 512) none _ W a q).trans ?_
  exact Finset.sum_congr rfl fun k _ => congrArg (· * W (ix2 k q) : EReal → EReal) (sum_apply X a k)

end RsAgRef
-- ==== Proof.Final.lean ====
/-
The claims: the frames of the three programs and the equality of the kernel's value with the reference's in exact
arithmetic.
-/
module

public import proofs.«01_k».proof.Defs
public import proofs.«01_k».proof.Proof.Gen.Kernel
public import proofs.«01_k».proof.Proof.Launch
public import proofs.«01_k».proof.Proof.Value
public import proofs.«01_k».proof.Proof.RefValue

@[expose] public section

noncomputable section

namespace RsAg

open Cert.KernelIdeal Cert.KernelIdeal.Gen
open Idealize.ShloMosaic Idealize.ShloMosaic.TcCoe
open Idealize.ShloMosaic.ValueIdx
open Idealize.SL.Sem

variable {F : FTy → Type} [FloatOps F] (m : (ℓ : Loc nD τ sig) → Buf (Elt F) ℓ) (ρ : Dev nD → PrngReg)

/-- The staged operands are the argument arrays. -/
theorem tOf_eq (c : Dev nD) : tOf m ρ c = m ((c.tc : Thread nD τ).loc main_arg0) :=
  Memref.read_access_unit_zero (Elt F) main_arg0 (funext fun a => by fin_cases a <;> decide) (fun a => by fin_cases a <;> decide) _
theorem wOf_eq (c : Dev nD) : wOf m ρ c = m ((c.tc : Thread nD τ).loc main_arg1) :=
  Memref.read_access_unit_zero (Elt F) main_arg1 (funext fun a => by fin_cases a <;> decide) (fun a => by fin_cases a <;> decide) _

/-- The result array ends as the body left the result's buffer. -/
theorem finalA_o (c : Dev nD) : finalA m ρ c (2 : Fin 3) = outF (tOf m ρ) (wOf m ρ) c := by
  have h : (win0_2.blk (0 : Fin 1)).view.read (Elt F) (finalA m ρ c (2 : Fin 3)) = outF (tOf m ρ) (wOf m ρ) c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

/-- The kernel's run, read at its arrays. -/
theorem run_kernel : θ_run defs (onTc (τ := τ) (main (F := F))) ⟨m, fun _ => 0, ρ⟩ (fun r =>
    (∀ c : Dev nD, r.2.mem ((c.tc : Thread nD τ).loc main_v1) = outF (fun d => m ((d.tc : Thread nD τ).loc main_arg0)) (fun d => m ((d.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run defs _ _).mono (fun r h => ⟨fun c => ⟨?_, (h.1 c (0 : Fin 3)).trans (finalA_t m ρ c), (h.1 c (1 : Fin 3)).trans (finalA_w m ρ c)⟩, h.2⟩) (run_main m ρ)
  rw [← funext (tOf_eq m ρ), ← funext (wOf_eq m ρ)]
  exact (h.1 c (2 : Fin 3)).trans (finalA_o m ρ c)

/-- The frame of the idealized kernel. -/
theorem frame_ideal : Cert.quiescent_KernelIdeal := fun m ρ _ =>
  (θ_run Cert.KernelIdeal.defs _ _).mono (fun _ h => ⟨fun c => (h.1 c).2, h.2⟩) (run_kernel m ρ)

section Kernel
open Cert.Kernel.Gen

/-- The kernel's table of bodies is the idealized one's: the two have one text. -/
theorem defs₀_same : Cert.Kernel.defs₀ (F := Bits) = Cert.KernelIdeal.defs₀ (F := Bits) := by
  refine congrArg Defs.onTc (funext fun l => funext fun a => ?_)
  match l, a with
  | ⟨0, _⟩, (t, s) => rfl
  | ⟨_ + 1, h⟩, _ => exact absurd h (Nat.not_lt.2 (Nat.le_add_left _ _))
theorem defs_same : Cert.Kernel.defs (F := Bits) = Cert.KernelIdeal.defs (F := Bits) := congrArg (Pipeline.defs Cert.Kernel.pcfgs) defs₀_same

/-- The frame of the kernel itself, read at machine words. -/
theorem frame_kernel : Cert.quiescent_Kernel := fun m ρ _ => by
  rw [defs_same]
  exact (θ_run Cert.KernelIdeal.defs _ _).mono (fun _ h => ⟨fun c => (h.1 c).2, h.2⟩) (run_kernel (F := Bits) m ρ)

end Kernel

/-- The frame of the reference, which declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Where each device's operand is its block of the reference's and the weights are the same, every device's result is
    the reference's. -/
theorem out_eq (X : FVec Ideal Cert.ReferenceIdeal.S8192x512 .f32) (W : FVec Ideal Cert.ReferenceIdeal.S512x512 .f32)
    (T : Dev nD → Vec Ideal S1024x512 .f32) (Wt : Dev nD → Vec Ideal S512x512 .f32)
    (hT : ∀ c, T c = Layout.block ⟨2, ![1024, 512]⟩ ⟨2, ![8192, 512]⟩ 0 8 c X RsAgRef.tiles) (hW : ∀ c, Wt c = W) (c : Dev nD) :
    outF T Wt c = RsAgRef.out X W := by
  funext i
  rw [show i = ix2 (i 0) (i 1) from eq_ix2 i]
  refine (outF_apply T Wt c (i 0) (i 1)).trans (.trans ?_ (RsAgRef.out_apply X W (i 0) (i 1)).symm)
  rw [hW c, funext hT]

/-- In exact arithmetic the kernel computes what the reference does, on every device. -/
theorem algebraic : Cert.algebraic_KernelIdeal_ReferenceIdeal := fun m g m' g' _ hag =>
  ⟨RsAgRef.out _ _,
    (θ_run Cert.KernelIdeal.defs _ _).mono
      (fun _ h c => ⟨(h.1 c).1.trans (out_eq _ _ _ _ (fun d => (hag d).1) (fun d => (hag d).2) c), (h.1 c).2⟩) (run_kernel m g),
    (θ_run Cert.ReferenceIdeal.defs _ _).mono (fun _ h => h 0) (Cert.ReferenceIdeal.Value.run m' g')⟩

end RsAg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

/-- The five claims: the three frames, the idealization's conditions (there are none), and the value. -/
theorem claim : Cert.Claim :=
  ⟨Cert.Kernel.Gen.facts, Cert.KernelIdeal.Gen.facts, Cert.ReferenceIdeal.Gen.facts,
    RsAg.frame_kernel, RsAg.frame_ideal, RsAg.frame_ref, trivial, RsAg.algebraic⟩

end Cert.Proof

end
